-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 256, 512]⟩ ⟨3, ![64, 256, 512]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![16, 512]⟩ ⟨2, ![512, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x64 : Shape := ⟨2, ![256, 64]⟩
abbrev S512x1 : Shape := ⟨2, ![512, 1]⟩
abbrev S2x256x512 : Shape := ⟨3, ![2, 256, 512]⟩
abbrev S16x512 : Shape := ⟨2, ![16, 512]⟩
abbrev S1024x512 : Shape := ⟨2, ![1024, 512]⟩
abbrev S32x16x512 : Shape := ⟨3, ![32, 16, 512]⟩
abbrev S32 : Shape := ⟨1, ![32]⟩
abbrev S_ : Shape := ⟨0, ![]⟩
abbrev S1 : Shape := ⟨1, ![1]⟩
abbrev S512x64 : Shape := ⟨2, ![512, 64]⟩
abbrev S1x64 : Shape := ⟨2, ![1, 64]⟩
abbrev S511x64 : Shape := ⟨2, ![511, 64]⟩
abbrev S2x64 : Shape := ⟨2, ![2, 64]⟩
abbrev S510x64 : Shape := ⟨2, ![510, 64]⟩
abbrev S4x64 : Shape := ⟨2, ![4, 64]⟩
abbrev S508x64 : Shape := ⟨2, ![508, 64]⟩
abbrev S8x64 : Shape := ⟨2, ![8, 64]⟩
abbrev S504x64 : Shape := ⟨2, ![504, 64]⟩
abbrev S16x64 : Shape := ⟨2, ![16, 64]⟩
abbrev S496x64 : Shape := ⟨2, ![496, 64]⟩
abbrev S32x64 : Shape := ⟨2, ![32, 64]⟩
abbrev S480x64 : Shape := ⟨2, ![480, 64]⟩
abbrev S64x64 : Shape := ⟨2, ![64, 64]⟩
abbrev S448x64 : Shape := ⟨2, ![448, 64]⟩
abbrev S128x64 : Shape := ⟨2, ![128, 64]⟩
abbrev S384x64 : Shape := ⟨2, ![384, 64]⟩
abbrev S512 : Shape := ⟨1, ![512]⟩
abbrev S512x512 : Shape := ⟨2, ![512, 512]⟩
abbrev S1x256x512 : Shape := ⟨3, ![1, 256, 512]⟩
abbrev S256x512 : Shape := ⟨2, ![256, 512]⟩
abbrev S128x512 : Shape := ⟨2, ![128, 512]⟩
abbrev S8x16x512 : Shape := ⟨3, ![8, 16, 512]⟩
abbrev S1x16x512 : Shape := ⟨3, ![1, 16, 512]⟩

abbrev nBuf : Space → Nat
  | .hbm => 5
  | .vmem => 7
  | .smem => 0
  | _ => 0

abbrev bufTy : (tb : Table) → Fin (tcTables nBuf tb) → BufTy
  | .hbm, ⟨0, _⟩ => ⟨S512x256, .bf16⟩
  | .hbm, ⟨1, _⟩ => ⟨S256x64, .bf16⟩
  | .hbm, ⟨2, _⟩ => ⟨S512x1, .i32⟩
  | .hbm, ⟨3, _⟩ => ⟨S2x256x512, .bf16⟩
  | .hbm, ⟨4, _⟩ => ⟨S16x512, .f32⟩
  | .local _ .vmem, ⟨0, _⟩ => ⟨S512x256, .bf16⟩
  | .local _ .vmem, ⟨1, _⟩ => ⟨S512x1, .i32⟩
  | .local _ .vmem, ⟨2, _⟩ => ⟨S2x256x512, .bf16⟩
  | .local _ .vmem, ⟨3, _⟩ => ⟨S16x512, .f32⟩
  | .local _ .vmem, ⟨4, _⟩ => ⟨S1024x512, .bf16⟩
  | .local _ .vmem, ⟨5, _⟩ => ⟨S32x16x512, .bf16⟩
  | .local _ .vmem, ⟨6, _⟩ => ⟨S32x16x512, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 33 68 bufScoped semScoped dmaSemScoped tileCredit tileCredit_eq_zero tileCredit_pos).withBarriers [(0, 32)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 32

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2 : BitVec 32 := 1#32
  let v4 : BitVec 32 := Scalar.addi v2 c1_i32_2
  let c32_i32_3 : BitVec 32 := 32#32
  let v5 : BitVec 32 := Scalar.remsi v4 c32_i32_3
  let c1_i32_5 : BitVec 32 := 1#32
  let v8 : BitVec 32 := Scalar.muli v5 c1_i32_5
  let v9 : BitVec 32 := Scalar.addi c0_i32 v8
  v9.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v10 : BitVec 32 := Scalar.addi v2 c2_i32
  let c32_i32_6 : BitVec 32 := 32#32
  let v11 : BitVec 32 := Scalar.remsi v10 c32_i32_6
  let c1_i32_8 : BitVec 32 := 1#32
  let v14 : BitVec 32 := Scalar.muli v11 c1_i32_8
  let v15 : BitVec 32 := Scalar.addi c0_i32_9 v14
  v15.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v16 : BitVec 32 := Scalar.addi v2 c3_i32
  let c32_i32_10 : BitVec 32 := 32#32
  let v17 : BitVec 32 := Scalar.remsi v16 c32_i32_10
  let c1_i32_12 : BitVec 32 := 1#32
  let v20 : BitVec 32 := Scalar.muli v17 c1_i32_12
  let v21 : BitVec 32 := Scalar.addi c0_i32_13 v20
  v21.toNat
def k0_dev4 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v22 : BitVec 32 := Scalar.addi v2 c4_i32
  let c32_i32_14 : BitVec 32 := 32#32
  let v23 : BitVec 32 := Scalar.remsi v22 c32_i32_14
  let c1_i32_16 : BitVec 32 := 1#32
  let v26 : BitVec 32 := Scalar.muli v23 c1_i32_16
  let v27 : BitVec 32 := Scalar.addi c0_i32_17 v26
  v27.toNat
def k0_dev5 (d0 : Dev nD) : Nat :=
  let c0_i32_21 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v28 : BitVec 32 := Scalar.addi v2 c5_i32
  let c32_i32_18 : BitVec 32 := 32#32
  let v29 : BitVec 32 := Scalar.remsi v28 c32_i32_18
  let c1_i32_20 : BitVec 32 := 1#32
  let v32 : BitVec 32 := Scalar.muli v29 c1_i32_20
  let v33 : BitVec 32 := Scalar.addi c0_i32_21 v32
  v33.toNat
def k0_dev6 (d0 : Dev nD) : Nat :=
  let c0_i32_25 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v34 : BitVec 32 := Scalar.addi v2 c6_i32
  let c32_i32_22 : BitVec 32 := 32#32
  let v35 : BitVec 32 := Scalar.remsi v34 c32_i32_22
  let c1_i32_24 : BitVec 32 := 1#32
  let v38 : BitVec 32 := Scalar.muli v35 c1_i32_24
  let v39 : BitVec 32 := Scalar.addi c0_i32_25 v38
  v39.toNat
def k0_dev7 (d0 : Dev nD) : Nat :=
  let c0_i32_29 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v40 : BitVec 32 := Scalar.addi v2 c7_i32
  let c32_i32_26 : BitVec 32 := 32#32
  let v41 : BitVec 32 := Scalar.remsi v40 c32_i32_26
  let c1_i32_28 : BitVec 32 := 1#32
  let v44 : BitVec 32 := Scalar.muli v41 c1_i32_28
  let v45 : BitVec 32 := Scalar.addi c0_i32_29 v44
  v45.toNat
def k0_dev8 (d0 : Dev nD) : Nat :=
  let c0_i32_33 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v46 : BitVec 32 := Scalar.addi v2 c8_i32
  let c32_i32_30 : BitVec 32 := 32#32
  let v47 : BitVec 32 := Scalar.remsi v46 c32_i32_30
  let c1_i32_32 : BitVec 32 := 1#32
  let v50 : BitVec 32 := Scalar.muli v47 c1_i32_32
  let v51 : BitVec 32 := Scalar.addi c0_i32_33 v50
  v51.toNat
def k0_dev9 (d0 : Dev nD) : Nat :=
  let c0_i32_37 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v52 : BitVec 32 := Scalar.addi v2 c9_i32
  let c32_i32_34 : BitVec 32 := 32#32
  let v53 : BitVec 32 := Scalar.remsi v52 c32_i32_34
  let c1_i32_36 : BitVec 32 := 1#32
  let v56 : BitVec 32 := Scalar.muli v53 c1_i32_36
  let v57 : BitVec 32 := Scalar.addi c0_i32_37 v56
  v57.toNat
def k0_dev10 (d0 : Dev nD) : Nat :=
  let c0_i32_41 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v58 : BitVec 32 := Scalar.addi v2 c10_i32
  let c32_i32_38 : BitVec 32 := 32#32
  let v59 : BitVec 32 := Scalar.remsi v58 c32_i32_38
  let c1_i32_40 : BitVec 32 := 1#32
  let v62 : BitVec 32 := Scalar.muli v59 c1_i32_40
  let v63 : BitVec 32 := Scalar.addi c0_i32_41 v62
  v63.toNat
def k0_dev11 (d0 : Dev nD) : Nat :=
  let c0_i32_45 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v64 : BitVec 32 := Scalar.addi v2 c11_i32
  let c32_i32_42 : BitVec 32 := 32#32
  let v65 : BitVec 32 := Scalar.remsi v64 c32_i32_42
  let c1_i32_44 : BitVec 32 := 1#32
  let v68 : BitVec 32 := Scalar.muli v65 c1_i32_44
  let v69 : BitVec 32 := Scalar.addi c0_i32_45 v68
  v69.toNat
def k0_dev12 (d0 : Dev nD) : Nat :=
  let c0_i32_49 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v70 : BitVec 32 := Scalar.addi v2 c12_i32
  let c32_i32_46 : BitVec 32 := 32#32
  let v71 : BitVec 32 := Scalar.remsi v70 c32_i32_46
  let c1_i32_48 : BitVec 32 := 1#32
  let v74 : BitVec 32 := Scalar.muli v71 c1_i32_48
  let v75 : BitVec 32 := Scalar.addi c0_i32_49 v74
  v75.toNat
def k0_dev13 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v76 : BitVec 32 := Scalar.addi v2 c13_i32
  let c32_i32_50 : BitVec 32 := 32#32
  let v77 : BitVec 32 := Scalar.remsi v76 c32_i32_50
  let c1_i32_52 : BitVec 32 := 1#32
  let v80 : BitVec 32 := Scalar.muli v77 c1_i32_52
  let v81 : BitVec 32 := Scalar.addi c0_i32_53 v80
  v81.toNat
def k0_dev14 (d0 : Dev nD) : Nat :=
  let c0_i32_57 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v82 : BitVec 32 := Scalar.addi v2 c14_i32
  let c32_i32_54 : BitVec 32 := 32#32
  let v83 : BitVec 32 := Scalar.remsi v82 c32_i32_54
  let c1_i32_56 : BitVec 32 := 1#32
  let v86 : BitVec 32 := Scalar.muli v83 c1_i32_56
  let v87 : BitVec 32 := Scalar.addi c0_i32_57 v86
  v87.toNat
def k0_dev15 (d0 : Dev nD) : Nat :=
  let c0_i32_61 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v88 : BitVec 32 := Scalar.addi v2 c15_i32
  let c32_i32_58 : BitVec 32 := 32#32
  let v89 : BitVec 32 := Scalar.remsi v88 c32_i32_58
  let c1_i32_60 : BitVec 32 := 1#32
  let v92 : BitVec 32 := Scalar.muli v89 c1_i32_60
  let v93 : BitVec 32 := Scalar.addi c0_i32_61 v92
  v93.toNat
def k0_dev16 (d0 : Dev nD) : Nat :=
  let c0_i32_66 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v94 : BitVec 32 := Scalar.addi v2 c16_i32
  let c32_i32_62 : BitVec 32 := 32#32
  let v95 : BitVec 32 := Scalar.remsi v94 c32_i32_62
  let c1_i32_65 : BitVec 32 := 1#32
  let v98 : BitVec 32 := Scalar.muli v95 c1_i32_65
  let v99 : BitVec 32 := Scalar.addi c0_i32_66 v98
  v99.toNat
def k0_dev17 (d0 : Dev nD) : Nat :=
  let c0_i32_72 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_67 : BitVec 32 := 17#32
  let v100 : BitVec 32 := Scalar.addi v2 c17_i32_67
  let c32_i32_68 : BitVec 32 := 32#32
  let v101 : BitVec 32 := Scalar.remsi v100 c32_i32_68
  let c1_i32_71 : BitVec 32 := 1#32
  let v104 : BitVec 32 := Scalar.muli v101 c1_i32_71
  let v105 : BitVec 32 := Scalar.addi c0_i32_72 v104
  v105.toNat
def k0_dev18 (d0 : Dev nD) : Nat :=
  let c0_i32_78 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_73 : BitVec 32 := 18#32
  let v106 : BitVec 32 := Scalar.addi v2 c18_i32_73
  let c32_i32_74 : BitVec 32 := 32#32
  let v107 : BitVec 32 := Scalar.remsi v106 c32_i32_74
  let c1_i32_77 : BitVec 32 := 1#32
  let v110 : BitVec 32 := Scalar.muli v107 c1_i32_77
  let v111 : BitVec 32 := Scalar.addi c0_i32_78 v110
  v111.toNat
def k0_dev19 (d0 : Dev nD) : Nat :=
  let c0_i32_84 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_79 : BitVec 32 := 19#32
  let v112 : BitVec 32 := Scalar.addi v2 c19_i32_79
  let c32_i32_80 : BitVec 32 := 32#32
  let v113 : BitVec 32 := Scalar.remsi v112 c32_i32_80
  let c1_i32_83 : BitVec 32 := 1#32
  let v116 : BitVec 32 := Scalar.muli v113 c1_i32_83
  let v117 : BitVec 32 := Scalar.addi c0_i32_84 v116
  v117.toNat
def k0_dev20 (d0 : Dev nD) : Nat :=
  let c0_i32_90 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_85 : BitVec 32 := 20#32
  let v118 : BitVec 32 := Scalar.addi v2 c20_i32_85
  let c32_i32_86 : BitVec 32 := 32#32
  let v119 : BitVec 32 := Scalar.remsi v118 c32_i32_86
  let c1_i32_89 : BitVec 32 := 1#32
  let v122 : BitVec 32 := Scalar.muli v119 c1_i32_89
  let v123 : BitVec 32 := Scalar.addi c0_i32_90 v122
  v123.toNat
def k0_dev21 (d0 : Dev nD) : Nat :=
  let c0_i32_96 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_91 : BitVec 32 := 21#32
  let v124 : BitVec 32 := Scalar.addi v2 c21_i32_91
  let c32_i32_92 : BitVec 32 := 32#32
  let v125 : BitVec 32 := Scalar.remsi v124 c32_i32_92
  let c1_i32_95 : BitVec 32 := 1#32
  let v128 : BitVec 32 := Scalar.muli v125 c1_i32_95
  let v129 : BitVec 32 := Scalar.addi c0_i32_96 v128
  v129.toNat
def k0_dev22 (d0 : Dev nD) : Nat :=
  let c0_i32_102 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_97 : BitVec 32 := 22#32
  let v130 : BitVec 32 := Scalar.addi v2 c22_i32_97
  let c32_i32_98 : BitVec 32 := 32#32
  let v131 : BitVec 32 := Scalar.remsi v130 c32_i32_98
  let c1_i32_101 : BitVec 32 := 1#32
  let v134 : BitVec 32 := Scalar.muli v131 c1_i32_101
  let v135 : BitVec 32 := Scalar.addi c0_i32_102 v134
  v135.toNat
def k0_dev23 (d0 : Dev nD) : Nat :=
  let c0_i32_108 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_103 : BitVec 32 := 23#32
  let v136 : BitVec 32 := Scalar.addi v2 c23_i32_103
  let c32_i32_104 : BitVec 32 := 32#32
  let v137 : BitVec 32 := Scalar.remsi v136 c32_i32_104
  let c1_i32_107 : BitVec 32 := 1#32
  let v140 : BitVec 32 := Scalar.muli v137 c1_i32_107
  let v141 : BitVec 32 := Scalar.addi c0_i32_108 v140
  v141.toNat
def k0_dev24 (d0 : Dev nD) : Nat :=
  let c0_i32_114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_109 : BitVec 32 := 24#32
  let v142 : BitVec 32 := Scalar.addi v2 c24_i32_109
  let c32_i32_110 : BitVec 32 := 32#32
  let v143 : BitVec 32 := Scalar.remsi v142 c32_i32_110
  let c1_i32_113 : BitVec 32 := 1#32
  let v146 : BitVec 32 := Scalar.muli v143 c1_i32_113
  let v147 : BitVec 32 := Scalar.addi c0_i32_114 v146
  v147.toNat
def k0_dev25 (d0 : Dev nD) : Nat :=
  let c0_i32_120 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_115 : BitVec 32 := 25#32
  let v148 : BitVec 32 := Scalar.addi v2 c25_i32_115
  let c32_i32_116 : BitVec 32 := 32#32
  let v149 : BitVec 32 := Scalar.remsi v148 c32_i32_116
  let c1_i32_119 : BitVec 32 := 1#32
  let v152 : BitVec 32 := Scalar.muli v149 c1_i32_119
  let v153 : BitVec 32 := Scalar.addi c0_i32_120 v152
  v153.toNat
def k0_dev26 (d0 : Dev nD) : Nat :=
  let c0_i32_126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_121 : BitVec 32 := 26#32
  let v154 : BitVec 32 := Scalar.addi v2 c26_i32_121
  let c32_i32_122 : BitVec 32 := 32#32
  let v155 : BitVec 32 := Scalar.remsi v154 c32_i32_122
  let c1_i32_125 : BitVec 32 := 1#32
  let v158 : BitVec 32 := Scalar.muli v155 c1_i32_125
  let v159 : BitVec 32 := Scalar.addi c0_i32_126 v158
  v159.toNat
def k0_dev27 (d0 : Dev nD) : Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_127 : BitVec 32 := 27#32
  let v160 : BitVec 32 := Scalar.addi v2 c27_i32_127
  let c32_i32_128 : BitVec 32 := 32#32
  let v161 : BitVec 32 := Scalar.remsi v160 c32_i32_128
  let c1_i32_131 : BitVec 32 := 1#32
  let v164 : BitVec 32 := Scalar.muli v161 c1_i32_131
  let v165 : BitVec 32 := Scalar.addi c0_i32_132 v164
  v165.toNat
def k0_dev28 (d0 : Dev nD) : Nat :=
  let c0_i32_138 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_133 : BitVec 32 := 28#32
  let v166 : BitVec 32 := Scalar.addi v2 c28_i32_133
  let c32_i32_134 : BitVec 32 := 32#32
  let v167 : BitVec 32 := Scalar.remsi v166 c32_i32_134
  let c1_i32_137 : BitVec 32 := 1#32
  let v170 : BitVec 32 := Scalar.muli v167 c1_i32_137
  let v171 : BitVec 32 := Scalar.addi c0_i32_138 v170
  v171.toNat
def k0_dev29 (d0 : Dev nD) : Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_139 : BitVec 32 := 29#32
  let v172 : BitVec 32 := Scalar.addi v2 c29_i32_139
  let c32_i32_140 : BitVec 32 := 32#32
  let v173 : BitVec 32 := Scalar.remsi v172 c32_i32_140
  let c1_i32_143 : BitVec 32 := 1#32
  let v176 : BitVec 32 := Scalar.muli v173 c1_i32_143
  let v177 : BitVec 32 := Scalar.addi c0_i32_144 v176
  v177.toNat
def k0_dev30 (d0 : Dev nD) : Nat :=
  let c0_i32_150 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_145 : BitVec 32 := 30#32
  let v178 : BitVec 32 := Scalar.addi v2 c30_i32_145
  let c32_i32_146 : BitVec 32 := 32#32
  let v179 : BitVec 32 := Scalar.remsi v178 c32_i32_146
  let c1_i32_149 : BitVec 32 := 1#32
  let v182 : BitVec 32 := Scalar.muli v179 c1_i32_149
  let v183 : BitVec 32 := Scalar.addi c0_i32_150 v182
  v183.toNat
def k0_dev31 (d0 : Dev nD) : Nat :=
  let c0_i32_156 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_151 : BitVec 32 := 31#32
  let v184 : BitVec 32 := Scalar.addi v2 c31_i32_151
  let c32_i32_152 : BitVec 32 := 32#32
  let v185 : BitVec 32 := Scalar.remsi v184 c32_i32_152
  let c1_i32_155 : BitVec 32 := 1#32
  let v188 : BitVec 32 := Scalar.muli v185 c1_i32_155
  let v189 : BitVec 32 := Scalar.addi c0_i32_156 v188
  v189.toNat
def k0_off1 (d0 : Dev nD) (c0_i32_182 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_181 : BitVec 32 := 16#32
  let v272 : BitVec 32 := Scalar.muli v2 c16_i32_181
  let v273 : BitVec 32 := Scalar.addi v272 c0_i32_182
  let v274 : Index := Scalar.indexCast v273
  let c0_183 : Index := 0#32
  ![v274.toNat, 0]
def k0_dev32 (d0 : Dev nD) : Nat :=
  let c0_i32_198 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_188 : BitVec 32 := 1#32
  let v282 : BitVec 32 := Scalar.addi v2 c1_i32_188
  let c32_i32_189 : BitVec 32 := 32#32
  let v283 : BitVec 32 := Scalar.remsi v282 c32_i32_189
  let c1_i32_197 : BitVec 32 := 1#32
  let v286 : BitVec 32 := Scalar.muli v283 c1_i32_197
  let v287 : BitVec 32 := Scalar.addi c0_i32_198 v286
  v287.toNat
def k0_dev33 (d0 : Dev nD) : Nat :=
  let c0_i32_213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_203 : BitVec 32 := 2#32
  let v296 : BitVec 32 := Scalar.addi v2 c2_i32_203
  let c32_i32_204 : BitVec 32 := 32#32
  let v297 : BitVec 32 := Scalar.remsi v296 c32_i32_204
  let c1_i32_212 : BitVec 32 := 1#32
  let v300 : BitVec 32 := Scalar.muli v297 c1_i32_212
  let v301 : BitVec 32 := Scalar.addi c0_i32_213 v300
  v301.toNat
def k0_dev34 (d0 : Dev nD) : Nat :=
  let c0_i32_228 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_218 : BitVec 32 := 3#32
  let v310 : BitVec 32 := Scalar.addi v2 c3_i32_218
  let c32_i32_219 : BitVec 32 := 32#32
  let v311 : BitVec 32 := Scalar.remsi v310 c32_i32_219
  let c1_i32_227 : BitVec 32 := 1#32
  let v314 : BitVec 32 := Scalar.muli v311 c1_i32_227
  let v315 : BitVec 32 := Scalar.addi c0_i32_228 v314
  v315.toNat
def k0_dev35 (d0 : Dev nD) : Nat :=
  let c0_i32_243 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_233 : BitVec 32 := 4#32
  let v324 : BitVec 32 := Scalar.addi v2 c4_i32_233
  let c32_i32_234 : BitVec 32 := 32#32
  let v325 : BitVec 32 := Scalar.remsi v324 c32_i32_234
  let c1_i32_242 : BitVec 32 := 1#32
  let v328 : BitVec 32 := Scalar.muli v325 c1_i32_242
  let v329 : BitVec 32 := Scalar.addi c0_i32_243 v328
  v329.toNat
def k0_dev36 (d0 : Dev nD) : Nat :=
  let c0_i32_258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_248 : BitVec 32 := 5#32
  let v338 : BitVec 32 := Scalar.addi v2 c5_i32_248
  let c32_i32_249 : BitVec 32 := 32#32
  let v339 : BitVec 32 := Scalar.remsi v338 c32_i32_249
  let c1_i32_257 : BitVec 32 := 1#32
  let v342 : BitVec 32 := Scalar.muli v339 c1_i32_257
  let v343 : BitVec 32 := Scalar.addi c0_i32_258 v342
  v343.toNat
def k0_dev37 (d0 : Dev nD) : Nat :=
  let c0_i32_273 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_263 : BitVec 32 := 6#32
  let v352 : BitVec 32 := Scalar.addi v2 c6_i32_263
  let c32_i32_264 : BitVec 32 := 32#32
  let v353 : BitVec 32 := Scalar.remsi v352 c32_i32_264
  let c1_i32_272 : BitVec 32 := 1#32
  let v356 : BitVec 32 := Scalar.muli v353 c1_i32_272
  let v357 : BitVec 32 := Scalar.addi c0_i32_273 v356
  v357.toNat
def k0_dev38 (d0 : Dev nD) : Nat :=
  let c0_i32_288 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_278 : BitVec 32 := 7#32
  let v366 : BitVec 32 := Scalar.addi v2 c7_i32_278
  let c32_i32_279 : BitVec 32 := 32#32
  let v367 : BitVec 32 := Scalar.remsi v366 c32_i32_279
  let c1_i32_287 : BitVec 32 := 1#32
  let v370 : BitVec 32 := Scalar.muli v367 c1_i32_287
  let v371 : BitVec 32 := Scalar.addi c0_i32_288 v370
  v371.toNat
def k0_dev39 (d0 : Dev nD) : Nat :=
  let c0_i32_308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_298 : BitVec 32 := 8#32
  let v390 : BitVec 32 := Scalar.addi v2 c8_i32_298
  let c32_i32_299 : BitVec 32 := 32#32
  let v391 : BitVec 32 := Scalar.remsi v390 c32_i32_299
  let c1_i32_307 : BitVec 32 := 1#32
  let v394 : BitVec 32 := Scalar.muli v391 c1_i32_307
  let v395 : BitVec 32 := Scalar.addi c0_i32_308 v394
  v395.toNat
def k0_dev40 (d0 : Dev nD) : Nat :=
  let c0_i32_323 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_313 : BitVec 32 := 9#32
  let v404 : BitVec 32 := Scalar.addi v2 c9_i32_313
  let c32_i32_314 : BitVec 32 := 32#32
  let v405 : BitVec 32 := Scalar.remsi v404 c32_i32_314
  let c1_i32_322 : BitVec 32 := 1#32
  let v408 : BitVec 32 := Scalar.muli v405 c1_i32_322
  let v409 : BitVec 32 := Scalar.addi c0_i32_323 v408
  v409.toNat
def k0_dev41 (d0 : Dev nD) : Nat :=
  let c0_i32_338 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_328 : BitVec 32 := 10#32
  let v418 : BitVec 32 := Scalar.addi v2 c10_i32_328
  let c32_i32_329 : BitVec 32 := 32#32
  let v419 : BitVec 32 := Scalar.remsi v418 c32_i32_329
  let c1_i32_337 : BitVec 32 := 1#32
  let v422 : BitVec 32 := Scalar.muli v419 c1_i32_337
  let v423 : BitVec 32 := Scalar.addi c0_i32_338 v422
  v423.toNat
def k0_dev42 (d0 : Dev nD) : Nat :=
  let c0_i32_353 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_343 : BitVec 32 := 11#32
  let v432 : BitVec 32 := Scalar.addi v2 c11_i32_343
  let c32_i32_344 : BitVec 32 := 32#32
  let v433 : BitVec 32 := Scalar.remsi v432 c32_i32_344
  let c1_i32_352 : BitVec 32 := 1#32
  let v436 : BitVec 32 := Scalar.muli v433 c1_i32_352
  let v437 : BitVec 32 := Scalar.addi c0_i32_353 v436
  v437.toNat
def k0_dev43 (d0 : Dev nD) : Nat :=
  let c0_i32_368 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_358 : BitVec 32 := 12#32
  let v446 : BitVec 32 := Scalar.addi v2 c12_i32_358
  let c32_i32_359 : BitVec 32 := 32#32
  let v447 : BitVec 32 := Scalar.remsi v446 c32_i32_359
  let c1_i32_367 : BitVec 32 := 1#32
  let v450 : BitVec 32 := Scalar.muli v447 c1_i32_367
  let v451 : BitVec 32 := Scalar.addi c0_i32_368 v450
  v451.toNat
def k0_dev44 (d0 : Dev nD) : Nat :=
  let c0_i32_383 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_373 : BitVec 32 := 13#32
  let v460 : BitVec 32 := Scalar.addi v2 c13_i32_373
  let c32_i32_374 : BitVec 32 := 32#32
  let v461 : BitVec 32 := Scalar.remsi v460 c32_i32_374
  let c1_i32_382 : BitVec 32 := 1#32
  let v464 : BitVec 32 := Scalar.muli v461 c1_i32_382
  let v465 : BitVec 32 := Scalar.addi c0_i32_383 v464
  v465.toNat
def k0_dev45 (d0 : Dev nD) : Nat :=
  let c0_i32_398 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_388 : BitVec 32 := 14#32
  let v474 : BitVec 32 := Scalar.addi v2 c14_i32_388
  let c32_i32_389 : BitVec 32 := 32#32
  let v475 : BitVec 32 := Scalar.remsi v474 c32_i32_389
  let c1_i32_397 : BitVec 32 := 1#32
  let v478 : BitVec 32 := Scalar.muli v475 c1_i32_397
  let v479 : BitVec 32 := Scalar.addi c0_i32_398 v478
  v479.toNat
def k0_dev46 (d0 : Dev nD) : Nat :=
  let c0_i32_413 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_403 : BitVec 32 := 15#32
  let v488 : BitVec 32 := Scalar.addi v2 c15_i32_403
  let c32_i32_404 : BitVec 32 := 32#32
  let v489 : BitVec 32 := Scalar.remsi v488 c32_i32_404
  let c1_i32_412 : BitVec 32 := 1#32
  let v492 : BitVec 32 := Scalar.muli v489 c1_i32_412
  let v493 : BitVec 32 := Scalar.addi c0_i32_413 v492
  v493.toNat
def k0_dev47 (d0 : Dev nD) : Nat :=
  let c0_i32_433 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_423 : BitVec 32 := 16#32
  let v512 : BitVec 32 := Scalar.addi v2 c16_i32_423
  let c32_i32_424 : BitVec 32 := 32#32
  let v513 : BitVec 32 := Scalar.remsi v512 c32_i32_424
  let c1_i32_432 : BitVec 32 := 1#32
  let v516 : BitVec 32 := Scalar.muli v513 c1_i32_432
  let v517 : BitVec 32 := Scalar.addi c0_i32_433 v516
  v517.toNat
def k0_dev48 (d0 : Dev nD) : Nat :=
  let c0_i32_448 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_438 : BitVec 32 := 17#32
  let v526 : BitVec 32 := Scalar.addi v2 c17_i32_438
  let c32_i32_439 : BitVec 32 := 32#32
  let v527 : BitVec 32 := Scalar.remsi v526 c32_i32_439
  let c1_i32_447 : BitVec 32 := 1#32
  let v530 : BitVec 32 := Scalar.muli v527 c1_i32_447
  let v531 : BitVec 32 := Scalar.addi c0_i32_448 v530
  v531.toNat
def k0_dev49 (d0 : Dev nD) : Nat :=
  let c0_i32_463 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_453 : BitVec 32 := 18#32
  let v540 : BitVec 32 := Scalar.addi v2 c18_i32_453
  let c32_i32_454 : BitVec 32 := 32#32
  let v541 : BitVec 32 := Scalar.remsi v540 c32_i32_454
  let c1_i32_462 : BitVec 32 := 1#32
  let v544 : BitVec 32 := Scalar.muli v541 c1_i32_462
  let v545 : BitVec 32 := Scalar.addi c0_i32_463 v544
  v545.toNat
def k0_dev50 (d0 : Dev nD) : Nat :=
  let c0_i32_478 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_468 : BitVec 32 := 19#32
  let v554 : BitVec 32 := Scalar.addi v2 c19_i32_468
  let c32_i32_469 : BitVec 32 := 32#32
  let v555 : BitVec 32 := Scalar.remsi v554 c32_i32_469
  let c1_i32_477 : BitVec 32 := 1#32
  let v558 : BitVec 32 := Scalar.muli v555 c1_i32_477
  let v559 : BitVec 32 := Scalar.addi c0_i32_478 v558
  v559.toNat
def k0_dev51 (d0 : Dev nD) : Nat :=
  let c0_i32_493 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_483 : BitVec 32 := 20#32
  let v568 : BitVec 32 := Scalar.addi v2 c20_i32_483
  let c32_i32_484 : BitVec 32 := 32#32
  let v569 : BitVec 32 := Scalar.remsi v568 c32_i32_484
  let c1_i32_492 : BitVec 32 := 1#32
  let v572 : BitVec 32 := Scalar.muli v569 c1_i32_492
  let v573 : BitVec 32 := Scalar.addi c0_i32_493 v572
  v573.toNat
def k0_dev52 (d0 : Dev nD) : Nat :=
  let c0_i32_508 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_498 : BitVec 32 := 21#32
  let v582 : BitVec 32 := Scalar.addi v2 c21_i32_498
  let c32_i32_499 : BitVec 32 := 32#32
  let v583 : BitVec 32 := Scalar.remsi v582 c32_i32_499
  let c1_i32_507 : BitVec 32 := 1#32
  let v586 : BitVec 32 := Scalar.muli v583 c1_i32_507
  let v587 : BitVec 32 := Scalar.addi c0_i32_508 v586
  v587.toNat
def k0_dev53 (d0 : Dev nD) : Nat :=
  let c0_i32_523 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_513 : BitVec 32 := 22#32
  let v596 : BitVec 32 := Scalar.addi v2 c22_i32_513
  let c32_i32_514 : BitVec 32 := 32#32
  let v597 : BitVec 32 := Scalar.remsi v596 c32_i32_514
  let c1_i32_522 : BitVec 32 := 1#32
  let v600 : BitVec 32 := Scalar.muli v597 c1_i32_522
  let v601 : BitVec 32 := Scalar.addi c0_i32_523 v600
  v601.toNat
def k0_dev54 (d0 : Dev nD) : Nat :=
  let c0_i32_538 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_528 : BitVec 32 := 23#32
  let v610 : BitVec 32 := Scalar.addi v2 c23_i32_528
  let c32_i32_529 : BitVec 32 := 32#32
  let v611 : BitVec 32 := Scalar.remsi v610 c32_i32_529
  let c1_i32_537 : BitVec 32 := 1#32
  let v614 : BitVec 32 := Scalar.muli v611 c1_i32_537
  let v615 : BitVec 32 := Scalar.addi c0_i32_538 v614
  v615.toNat
def k0_dev55 (d0 : Dev nD) : Nat :=
  let c0_i32_558 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_548 : BitVec 32 := 24#32
  let v634 : BitVec 32 := Scalar.addi v2 c24_i32_548
  let c32_i32_549 : BitVec 32 := 32#32
  let v635 : BitVec 32 := Scalar.remsi v634 c32_i32_549
  let c1_i32_557 : BitVec 32 := 1#32
  let v638 : BitVec 32 := Scalar.muli v635 c1_i32_557
  let v639 : BitVec 32 := Scalar.addi c0_i32_558 v638
  v639.toNat
def k0_dev56 (d0 : Dev nD) : Nat :=
  let c0_i32_573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_563 : BitVec 32 := 25#32
  let v648 : BitVec 32 := Scalar.addi v2 c25_i32_563
  let c32_i32_564 : BitVec 32 := 32#32
  let v649 : BitVec 32 := Scalar.remsi v648 c32_i32_564
  let c1_i32_572 : BitVec 32 := 1#32
  let v652 : BitVec 32 := Scalar.muli v649 c1_i32_572
  let v653 : BitVec 32 := Scalar.addi c0_i32_573 v652
  v653.toNat
def k0_dev57 (d0 : Dev nD) : Nat :=
  let c0_i32_588 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_578 : BitVec 32 := 26#32
  let v662 : BitVec 32 := Scalar.addi v2 c26_i32_578
  let c32_i32_579 : BitVec 32 := 32#32
  let v663 : BitVec 32 := Scalar.remsi v662 c32_i32_579
  let c1_i32_587 : BitVec 32 := 1#32
  let v666 : BitVec 32 := Scalar.muli v663 c1_i32_587
  let v667 : BitVec 32 := Scalar.addi c0_i32_588 v666
  v667.toNat
def k0_dev58 (d0 : Dev nD) : Nat :=
  let c0_i32_603 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_593 : BitVec 32 := 27#32
  let v676 : BitVec 32 := Scalar.addi v2 c27_i32_593
  let c32_i32_594 : BitVec 32 := 32#32
  let v677 : BitVec 32 := Scalar.remsi v676 c32_i32_594
  let c1_i32_602 : BitVec 32 := 1#32
  let v680 : BitVec 32 := Scalar.muli v677 c1_i32_602
  let v681 : BitVec 32 := Scalar.addi c0_i32_603 v680
  v681.toNat
def k0_dev59 (d0 : Dev nD) : Nat :=
  let c0_i32_618 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_608 : BitVec 32 := 28#32
  let v690 : BitVec 32 := Scalar.addi v2 c28_i32_608
  let c32_i32_609 : BitVec 32 := 32#32
  let v691 : BitVec 32 := Scalar.remsi v690 c32_i32_609
  let c1_i32_617 : BitVec 32 := 1#32
  let v694 : BitVec 32 := Scalar.muli v691 c1_i32_617
  let v695 : BitVec 32 := Scalar.addi c0_i32_618 v694
  v695.toNat
def k0_dev60 (d0 : Dev nD) : Nat :=
  let c0_i32_633 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_623 : BitVec 32 := 29#32
  let v704 : BitVec 32 := Scalar.addi v2 c29_i32_623
  let c32_i32_624 : BitVec 32 := 32#32
  let v705 : BitVec 32 := Scalar.remsi v704 c32_i32_624
  let c1_i32_632 : BitVec 32 := 1#32
  let v708 : BitVec 32 := Scalar.muli v705 c1_i32_632
  let v709 : BitVec 32 := Scalar.addi c0_i32_633 v708
  v709.toNat
def k0_dev61 (d0 : Dev nD) : Nat :=
  let c0_i32_648 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_638 : BitVec 32 := 30#32
  let v718 : BitVec 32 := Scalar.addi v2 c30_i32_638
  let c32_i32_639 : BitVec 32 := 32#32
  let v719 : BitVec 32 := Scalar.remsi v718 c32_i32_639
  let c1_i32_647 : BitVec 32 := 1#32
  let v722 : BitVec 32 := Scalar.muli v719 c1_i32_647
  let v723 : BitVec 32 := Scalar.addi c0_i32_648 v722
  v723.toNat
def k0_dev62 (d0 : Dev nD) : Nat :=
  let c0_i32_663 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_653 : BitVec 32 := 31#32
  let v732 : BitVec 32 := Scalar.addi v2 c31_i32_653
  let c32_i32_654 : BitVec 32 := 32#32
  let v733 : BitVec 32 := Scalar.remsi v732 c32_i32_654
  let c1_i32_662 : BitVec 32 := 1#32
  let v736 : BitVec 32 := Scalar.muli v733 c1_i32_662
  let v737 : BitVec 32 := Scalar.addi c0_i32_663 v736
  v737.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S512x256 : Shape := ⟨2, ![512, 256]⟩
abbrev S256x64 : Shape := ⟨2, ![256, 64]⟩
abbrev S512x1 : Shape := ⟨2, ![512, 1]⟩
abbrev S64x256x512 : Shape := ⟨3, ![64, 256, 512]⟩
abbrev S512 : Shape := ⟨1, ![512]⟩
abbrev S1x64 : Shape := ⟨2, ![1, 64]⟩
abbrev S512x64 : Shape := ⟨2, ![512, 64]⟩
abbrev S_ : Shape := ⟨0, ![]⟩
abbrev S512x64x512 : Shape := ⟨3, ![512, 64, 512]⟩
abbrev S512x64x1 : Shape := ⟨3, ![512, 64, 1]⟩
abbrev S512x512 : Shape := ⟨2, ![512, 512]⟩

abbrev nBuf : Space → Nat
  | .hbm => 31
  | .vmem => 0
  | .smem => 0
  | _ => 0

abbrev bufTy : (tb : Table) → Fin (tcTables nBuf tb) → BufTy
  | .hbm, ⟨0, _⟩ => ⟨S512x256, .bf16⟩
  | .hbm, ⟨1, _⟩ => ⟨S256x64, .bf16⟩
  | .hbm, ⟨2, _⟩ => ⟨S512x1, .i32⟩
  | .hbm, ⟨3, _⟩ => ⟨S64x256x512, .bf16⟩
  | .hbm, ⟨4, _⟩ => ⟨S512, .i32⟩
  | .hbm, ⟨5, _⟩ => ⟨S512x1, .i32⟩
  | .hbm, ⟨6, _⟩ => ⟨S1x64, .i32⟩
  | .hbm, ⟨7, _⟩ => ⟨S512x64, .i32⟩
  | .hbm, ⟨8, _⟩ => ⟨S512x64, .i32⟩
  | .hbm, ⟨9, _⟩ => ⟨S512x64, .i1⟩
  | .hbm, ⟨10, _⟩ => ⟨S512x64, .i32⟩
  | .hbm, ⟨11, _⟩ => ⟨S_, .i32⟩
  | .hbm, ⟨12, _⟩ => ⟨S_, .i32⟩
  | .hbm, ⟨13, _⟩ => ⟨S512x64, .i32⟩
  | .hbm, ⟨14, _⟩ => ⟨S512x64, .i32⟩
  | .hbm, ⟨15, _⟩ => ⟨S_, .i32⟩
  | .hbm, ⟨16, _⟩ => ⟨S512x64, .i32⟩
  | .hbm, ⟨17, _⟩ => ⟨S512x64, .i1⟩
  | .hbm, ⟨18, _⟩ => ⟨S_, .i32⟩
  | .hbm, ⟨19, _⟩ => ⟨S512x64, .i32⟩
  | .hbm, ⟨20, _⟩ => ⟨S512x64, .i1⟩
  | .hbm, ⟨21, _⟩ => ⟨S512x64, .i1⟩
  | .hbm, ⟨22, _⟩ => ⟨S512x64x512, .f32⟩
  | .hbm, ⟨23, _⟩ => ⟨S512x64x1, .i1⟩
  | .hbm, ⟨24, _⟩ => ⟨S_, .f32⟩
  | .hbm, ⟨25, _⟩ => ⟨S_, .f32⟩
  | .hbm, ⟨26, _⟩ => ⟨S512x64x512, .i1⟩
  | .hbm, ⟨27, _⟩ => ⟨S512x64x512, .f32⟩
  | .hbm, ⟨28, _⟩ => ⟨S512x64x512, .f32⟩
  | .hbm, ⟨29, _⟩ => ⟨S_, .f32⟩
  | .hbm, ⟨30, _⟩ => ⟨S512x512, .f32⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_call1_call0_c : Ref sig .tc := ⟨.hbm, 11, rfl⟩
abbrev main_call1_call0_v0 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_call2_v0 : Ref sig .tc := ⟨.hbm, 25, rfl⟩
abbrev main_call2_v1 : Ref sig .tc := ⟨.hbm, 26, rfl⟩
abbrev main_call2_v2 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩

abbrev nD : Nat := 1
abbrev τ : Topo := Topo.v7x

variable {F : FTy → Type} [FloatOps F]
-- ==== Proof.Proto.lean ====
/-
# The exchange of the 32 devices: its cells, its slots, its schedule

Device `c` sends slot `j` of its product buffer to slot `j` of the receive buffer of device `c + j`, for every
`j = 1, …, 31` (all device numbers modulo 32), after that device has said that its slot is free. So besides the
barrier cell there are three cells per device and slot:

* `alive j` of device `c`: one unit, paid by device `c + j`, which hands over slot `j` of its receive buffer;
* `send j` of device `c`: the slot's credit, paid by the transfer, which gives the sent slot back;
* `recv j` of device `c`: the slot's credit, paid by the transfer of device `c - j`, which hands over slot `j` of the
  receive buffer with that device's products in it.

The cells of slot 0 carry no duty: a device keeps its own products.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's -/

abbrev UU : Type := UR sig nD τ × URounds (GSem nD τ sig) Unit

local notation "𝕄" => MT nD τ sig Unit (Elt F) ℕ UU ℕ

abbrev EP : Emb (UR sig nD τ) (MT nD τ sig Unit (Elt F) ℕ UU ℕ) := embL
abbrev ER : Emb (URounds (GSem nD τ sig) Unit) (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The devices around the ring -/

/-- The device `j` places after `c`, -/
def up (c : Dev nD) (j : Fin 32) : Dev nD := ⟨(c.val + j.val) % 32, Nat.mod_lt _ (by decide)⟩
/-- and the one `j` places before it. -/
def dn (c : Dev nD) (j : Fin 32) : Dev nD := ⟨(c.val + 32 - j.val) % 32, Nat.mod_lt _ (by decide)⟩
/-- The slot opposite to `j`. -/
def opp (j : Fin 32) : Fin 32 := ⟨(32 - j.val) % 32, Nat.mod_lt _ (by decide)⟩

theorem dn_up (c : Dev nD) (j : Fin 32) : dn (up c j) j = c := by
  have : c.val < 32 := c.isLt; have := j.isLt; apply Fin.ext; simp only [up, dn]; omega
theorem up_dn (c : Dev nD) (j : Fin 32) : up (dn c j) j = c := by
  have : c.val < 32 := c.isLt; have := j.isLt; apply Fin.ext; simp only [up, dn]; omega
theorem up_opp (c : Dev nD) (j : Fin 32) : up (up c j) (opp j) = c := by
  have : c.val < 32 := c.isLt; have := j.isLt; apply Fin.ext; simp only [up, opp]; omega
theorem opp_opp (j : Fin 32) : opp (opp j) = j := by
  have := j.isLt; apply Fin.ext; simp only [opp]; omega
theorem up_opp' (c : Dev nD) (j : Fin 32) : up (up c (opp j)) j = c := by
  have : c.val < 32 := c.isLt; have := j.isLt; apply Fin.ext; simp only [up, opp]; omega

/-! ## The buffers and their slots -/

abbrev xM : Memref sig .tc .vmem S512x256 .bf16 := Memref.whole cc0_stg0_0
abbrev rM : Memref sig .tc .vmem S512x1 .i32 := Memref.whole cc0_stg1_0
abbrev wM : Memref sig .tc .vmem S2x256x512 .bf16 := Memref.whole cc0_stg2_0
abbrev oM : Memref sig .tc .vmem S16x512 .f32 := Memref.whole cc0_stg3_0
abbrev mM : Memref sig .tc .vmem S1024x512 .bf16 := Memref.whole cc0_scratch0
abbrev ybM : Memref sig .tc .vmem S32x16x512 .bf16 := Memref.whole cc0_scratch1
abbrev rvM : Memref sig .tc .vmem S32x16x512 .bf16 := Memref.whole cc0_scratch2

theorem inbS (j : Fin 32) : ∀ a, (![j.val, 0, 0] : Fin 3 → Nat) a + S1x16x512.size a ≤ S32x16x512.size a := by
  revert j; decide
theorem inbA (j : Fin 32) : ∀ a, (![j.val] : Fin 1 → Nat) a + S1.size a ≤ S32.size a := by
  revert j; decide

/-- Slot `j` of a buffer of 32 slots, as a rectangle and as a memref of the slot's own shape. -/
abbrev slotR (j : Fin 32) : Rect S32x16x512 := Rect.unit (s := S32x16x512) ![j.val, 0, 0] S1x16x512.size (inbS j)
abbrev slotM (M : Memref sig .tc .vmem S32x16x512 .bf16) (j : Fin 32) : Memref sig .tc .vmem S16x512 .bf16 :=
  (M.slice (slotR j) (fun _ => rfl)).squeeze S16x512 squeezes_S1x16x512_S16x512

/-! ## The semaphores and cells -/

abbrev barS : Sem sig := (SemArray.scalar (sig.barrier 0 rfl) : Sems sig S_).sem
abbrev alS (j : Fin 32) : Sem sig :=
  ((cc0_scratch3.slice (Rect.unit (s := S32) ![j.val] S1.size (inbA j))).squeeze S_ squeezes_S1_S_ : Sems sig S_).sem
abbrev sdS (j : Fin 32) : DmaSem sig :=
  ((cc0_scratch4.slice (Rect.unit (s := S32) ![j.val] S1.size (inbA j))).squeeze S_ squeezes_S1_S_ : DmaSems sig S_).sem
abbrev rcS (j : Fin 32) : DmaSem sig :=
  ((cc0_scratch5.slice (Rect.unit (s := S32) ![j.val] S1.size (inbA j))).squeeze S_ squeezes_S1_S_ : DmaSems sig S_).sem

theorem alS_val (j : Fin 32) : (alS j).val = j.val := by revert j; decide +kernel
theorem sdS_val (j : Fin 32) : (sdS j).val = 4 + j.val := by revert j; decide +kernel
theorem rcS_val (j : Fin 32) : (rcS j).val = 36 + j.val := by revert j; decide +kernel
theorem barS_val : barS.val = 32 := by decide +kernel

/-- The kernel's own semaphores: alive, send and receive, 32 of each; -/
abbrev osem : Fin 3 × Fin 32 → SemLoc sig
  | (0, j) => .reg (alS j)
  | (1, j) => .dma (sdS j)
  | (2, j) => .dma (rcS j)

/-- with the barrier's, the exchange's. -/
abbrev Kd : Type := Option (Fin 3 × Fin 32)
abbrev csem : Kd → SemLoc sig
  | none => .reg barS
  | some x => osem x

theorem csem_inj : Function.Injective csem := by
  have hr : ∀ {a b : Sem sig}, (SemLoc.reg a : SemLoc sig) = .reg b → a.val = b.val := fun h => by cases h; rfl
  have hd : ∀ {a b : DmaSem sig}, (SemLoc.dma a : SemLoc sig) = .dma b → a.val = b.val := fun h => by cases h; rfl
  intro a b h
  rcases a with _ | ⟨k, j⟩ <;> rcases b with _ | ⟨k', j'⟩
  · rfl
  · fin_cases k'
    · have := hr h; rw [barS_val, alS_val] at this; have := j'.isLt; omega
    · cases h
    · cases h
  · fin_cases k
    · have := hr h; rw [barS_val, alS_val] at this; have := j.isLt; omega
    · cases h
    · cases h
  · have := j.isLt; have := j'.isLt
    fin_cases k <;> fin_cases k'
    · have := hr h; rw [alS_val, alS_val] at this; rw [Fin.ext this]
    · cases h
    · cases h
    · cases h
    · have := hd h; rw [sdS_val, sdS_val] at this
      have : j = j' := Fin.ext (by omega)
      rw [this]
    · have := hd h; rw [sdS_val, rcS_val] at this; omega
    · cases h
    · have := hd h; rw [sdS_val, rcS_val] at this; omega
    · have := hd h; rw [rcS_val, rcS_val] at this
      have : j = j' := Fin.ext (by omega)
      rw [this]

abbrev kcell (ck : Dev nD × Kd) : GSem nD τ sig := ((ck.1 : Thread nD τ), csem ck.2)
abbrev barC (c : Dev nD) : GSem nD τ sig := ((c : Thread nD τ), .reg barS)
abbrev alC (c : Dev nD) (j : Fin 32) : GSem nD τ sig := ((c : Thread nD τ), .reg (alS j))
abbrev sdC (c : Dev nD) (j : Fin 32) : GSem nD τ sig := ((c : Thread nD τ), .dma (sdS j))
abbrev rcC (c : Dev nD) (j : Fin 32) : GSem nD τ sig := ((c : Thread nD τ), .dma (rcS j))

theorem kcell_inj : Function.Injective (kcell : Dev nD × Kd → GSem nD τ sig) := by
  rintro ⟨c, k⟩ ⟨c', k'⟩ h
  have h1 : c = c' := congrArg (fun g : GSem nD τ sig => g.1.1) h
  subst h1
  exact congrArg (Prod.mk c) (csem_inj (congrArg Prod.snd h))

/-- One slot's transfer credit. -/
@[irreducible] def N : ℕ := (slotM rvM 0).view.dmaCredit
theorem N_pos : 0 < N := by unfold N; exact View.dmaCredit_pos _ (by decide)
theorem N_rv (j : Fin 32) : (slotM rvM j).view.dmaCredit = N := by unfold N; rfl
theorem N_yb (j : Fin 32) : (slotM ybM j).view.dmaCredit = N := by unfold N; rfl

/-! ## Contents -/

/-- The staged blocks of device `c`: the tokens, the routes, its two expert matrices. -/
def xstg (c : Dev nD) : (cc0_stg0_0 : Ref sig .tc).ty.Contents (Elt F) :=
  (win0_0.blk (0 : Fin 1)).view.read (Elt F) ((s₀ m ρ).mem ((c : Thread nD τ).loc main_arg0))
def rstg (c : Dev nD) : (cc0_stg1_0 : Ref sig .tc).ty.Contents (Elt F) :=
  (win0_1.blk (0 : Fin 1)).view.read (Elt F) ((s₀ m ρ).mem ((c : Thread nD τ).loc main_arg2))
def wstg (c : Dev nD) : (cc0_stg2_0 : Ref sig .tc).ty.Contents (Elt F) :=
  (win0_2.blk (0 : Fin 1)).view.read (Elt F) ((s₀ m ρ).mem ((c : Thread nD τ).loc main_arg3))

/-- A device's place on the mesh, as the kernel computes it. -/
abbrev place (c : Dev nD) : BitVec 32 := Scalar.remsi (Scalar.divsi (Dev.word c) 1#32) 32#32

/-- The masked tokens, twice. -/
def MX (c : Dev nD) : (cc0_scratch0 : Ref sig .tc).ty.Contents (Elt F) :=
  k0_pay4 (place c) (k0_pay1 (rstg m ρ c)) (k0_pay2 (F := F) (k0_pay1 (rstg m ρ c)) (iota .tc S512x64 32 [1] iota_S512x64_d1_w32))
    (k0_pay3 (xstg m ρ c))

abbrev w0V (c : Dev nD) : Vec F S1x256x512 .bf16 :=
  wM.view.readAt (Elt F) (Rect.unit (s := S2x256x512) ![0, 0, 0] S1x256x512.size inb_S2x256x512_S1x256x512_0_0_0).toLoadRect (wstg m ρ c)
abbrev w1V (c : Dev nD) : Vec F S1x256x512 .bf16 :=
  wM.view.readAt (Elt F) (Rect.unit (s := S2x256x512) ![1, 0, 0] S1x256x512.size inb_S2x256x512_S1x256x512_1_0_0).toLoadRect (wstg m ρ c)

/-- The 128 rows of the masked tokens chunk `k` multiplies. -/
abbrev mxV (c : Dev nD) (k : Fin 4) : Vec F S128x512 .bf16 :=
  mM.view.readAt (Elt F) (Rect.unit (s := S1024x512) (k0_off1 c (BitVec.ofNat 32 (128 * k.val))) S128x512.size (k0_off1_inb c k)).toLoadRect (MX m ρ c)

/-- The products of chunk `k`: eight slots. -/
def chunkV (c : Dev nD) : Fin 4 → FVec F S8x16x512 .bf16
  | 0 => k0_pay7 (k0_pay6 (w0V m ρ c) (w1V m ρ c) (mxV m ρ c 0))
  | 1 => k0_pay8 (k0_pay5 (w0V m ρ c) (w1V m ρ c)) (mxV m ρ c 1)
  | 2 => k0_pay9 (k0_pay5 (w0V m ρ c) (w1V m ρ c)) (mxV m ρ c 2)
  | 3 => k0_pay10 (k0_pay5 (w0V m ρ c) (w1V m ρ c)) (mxV m ρ c 3)

abbrev ix8 (a : Fin 8) (r : Fin 16) (o : Fin 512) : S8x16x512.Idx := fun | 0 => a | 1 => r | 2 => o
theorem ix8_ext (i : S8x16x512.Idx) {a r o} (h0 : (i 0).val = a.val) (h1 : (i 1).val = r.val) (h2 : (i 2).val = o.val) : i = ix8 a r o := by
  funext x; fin_cases x
  · exact Fin.ext h0
  · exact Fin.ext h1
  · exact Fin.ext h2

/-- The whole product buffer of device `c` once all four chunks are stored. -/
def YB (c : Dev nD) : (cc0_scratch1 : Ref sig .tc).ty.Contents (Elt F) := fun i : S32x16x512.Idx =>
  chunkV m ρ c ⟨(i 0).val / 8, by have : (i 0).val < 32 := (i 0).isLt; omega⟩
    (ix8 ⟨(i 0).val % 8, Nat.mod_lt _ (by decide)⟩ ⟨(i 1).val, (i 1).isLt⟩ ⟨(i 2).val, (i 2).isLt⟩)

/-- The whole receive buffer of device `c` once all slots have landed. -/
def RV (c : Dev nD) : (cc0_scratch2 : Ref sig .tc).ty.Contents (Elt F) := fun i : S32x16x512.Idx =>
  YB m ρ (dn c ⟨(i 0).val, (i 0).isLt⟩) i

/-- What device `c` reads off slot `j` of its receive buffer, and off slot 0 of its products. -/
abbrev rcv (c : Dev nD) (j : Fin 32) : Vec F S1x16x512 .bf16 := rvM.view.readAt (Elt F) (slotR j).toLoadRect (RV m ρ c)
abbrev own0 (c : Dev nD) : Vec F S1x16x512 .bf16 := ybM.view.readAt (Elt F) (slotR 0).toLoadRect (YB m ρ c)

/-- The running sum over the slots, the kernel's result. -/
def outV (c : Dev nD) : FVec F S16x512 .f32 :=
  let a := k0_pay11 (own0 m ρ c) (rcv m ρ c 1) (rcv m ρ c 2)
  let a := k0_pay12 a (rcv m ρ c 3) (rcv m ρ c 4)
  let a := k0_pay13 a (rcv m ρ c 5) (rcv m ρ c 6)
  let a := k0_pay14 a (rcv m ρ c 7) (rcv m ρ c 8) (rcv m ρ c 9)
  let a := k0_pay15 a (rcv m ρ c 10) (rcv m ρ c 11)
  let a := k0_pay16 a (rcv m ρ c 12) (rcv m ρ c 13)
  let a := k0_pay17 a (rcv m ρ c 14) (rcv m ρ c 15) (rcv m ρ c 16)
  let a := k0_pay18 a (rcv m ρ c 17) (rcv m ρ c 18)
  let a := k0_pay19 a (rcv m ρ c 19) (rcv m ρ c 20)
  let a := k0_pay20 a (rcv m ρ c 21) (rcv m ρ c 22)
  let a := k0_pay22 a (k0_pay21 (rcv m ρ c 23)) (rcv m ρ c 24) (rcv m ρ c 25)
  let a := k0_pay23 a (rcv m ρ c 26) (rcv m ρ c 27)
  let a := k0_pay24 a (rcv m ρ c 28) (rcv m ρ c 29)
  k0_pay25 a (rcv m ρ c 30) (rcv m ρ c 31)

/-! ## Slots held -/

def rvPts (c : Dev nD) (j : Fin 32) (f : (cc0_scratch2 : Ref sig .tc).ty.Contents (Elt F)) : sProp 𝕄 :=
  (slotM rvM j).view.loc (c : Thread nD τ) ↦[(slotM rvM j).view.set]{fullShare} f
def ybPts (c : Dev nD) (j : Fin 32) (f : (cc0_scratch1 : Ref sig .tc).ty.Contents (Elt F)) : sProp 𝕄 :=
  (slotM ybM j).view.loc (c : Thread nD τ) ↦[(slotM ybM j).view.set]{fullShare} f

omit [FloatOps F] in
instance rvPts_storable (c : Dev nD) (j) (f) : BI.Storable (upEmb : UEmb _ 𝕄) (rvPts (F := F) c j f) := by unfold rvPts; infer_instance
omit [FloatOps F] in
instance ybPts_storable (c : Dev nD) (j) (f) : BI.Storable (upEmb : UEmb _ 𝕄) (ybPts (F := F) c j f) := by unfold ybPts; infer_instance

theorem set_rv (j : Fin 32) : (slotM rvM j).view.set = (slotR j).set := by
  show (((View.whole cc0_scratch2).slice (slotR j)).reshape _ _).set = _
  rw [View.set_reshape, View.set_slice_whole]
theorem set_yb (j : Fin 32) : (slotM ybM j).view.set = (slotR j).set := by
  show (((View.whole cc0_scratch1).slice (slotR j)).reshape _ _).set = _
  rw [View.set_reshape, View.set_slice_whole]

/-- `n` slots from slot `o` on. -/
theorem mem_rows {o n : ℕ} (h : ∀ a, (![o, 0, 0] : Fin 3 → Nat) a + (![n, 16, 512] : Fin 3 → Nat) a ≤ S32x16x512.size a) (i : S32x16x512.Idx) :
    i ∈ (Rect.unit (s := S32x16x512) ![o, 0, 0] ![n, 16, 512] h).set ↔ o ≤ (i 0).val ∧ (i 0).val < o + n := by
  rw [Rect.mem_set_unit]
  constructor
  · intro h'
    exact h' 0
  · intro h' a
    fin_cases a
    · exact h'
    · exact ⟨Nat.zero_le _, by show (i 1).val < 0 + 16; have : (i 1).val < 16 := (i 1).isLt; omega⟩
    · exact ⟨Nat.zero_le _, by show (i 2).val < 0 + 512; have : (i 2).val < 512 := (i 2).isLt; omega⟩

theorem mem_slot (j : Fin 32) (i : S32x16x512.Idx) : i ∈ (slotR j).set ↔ (i 0).val = j.val := by
  rw [mem_rows]; omega

theorem slot_disj (j j' : Fin 32) (h : j ≠ j') : Disjoint (slotR j).set (slotR j').set :=
  Finset.disjoint_left.mpr fun i hi hi' => h (Fin.ext (((mem_slot j i).mp hi).symm.trans ((mem_slot j' i).mp hi')))

/-! ## The schedule -/

/-- What each cell's one duty hands to device `c`. -/
def payK (c : Dev nD) : Kd → sProp 𝕄
  | none => iprop(emp)
  | some (0, j) => iprop(∃ f, rvPts (up c j) j f)
  | some (1, j) => ybPts c j (YB m ρ c)
  | some (2, j) => rvPts c j (RV m ρ c)

def amtK : Kd → ℕ
  | none => 1
  | some (0, _) => 1
  | some (1, _) => N
  | some (2, _) => N

/-- The barrier cell has a duty and so has every cell of a slot but slot 0. -/
def dutK : Kd → Bool
  | none => true
  | some (_, j) => decide (j ≠ 0)

def levK : Kd → ℕ
  | none => 1
  | some (0, _) => 2
  | some (1, _) => 0
  | some (2, _) => 3

def Rd : Rounds.Schedule (GSem nD τ sig) Unit 𝕄 where
  duties g r := if r = 0 ∧ Function.extend csem dutK (fun _ => false) g.2 = true then {()} else ∅
  unitless _ := False
  amount g _ _ := Function.extend csem amtK (fun _ => 1) g.2
  payload g _ _ := Function.extend csem (payK m ρ g.1.1) (fun _ => iprop(emp)) g.2
  amount_pos g _ _ _ := by
    by_cases h : ∃ k, csem k = g.2
    · obtain ⟨k, hk⟩ := h
      rw [← hk, csem_inj.extend_apply]
      rcases k with _ | ⟨x, j⟩
      · exact Nat.one_pos
      · fin_cases x
        · exact Nat.one_pos
        · exact N_pos
        · exact N_pos
    · rw [Function.extend_apply' _ _ _ h]; exact Nat.one_pos

theorem payK_storable (c : Dev nD) (k : Kd) : BI.Storable (upEmb : UEmb _ 𝕄) (payK (F := F) m ρ c k) := by
  rcases k with _ | ⟨x, j⟩
  · unfold payK; infer_instance
  · fin_cases x
    · show BI.Storable upEmb iprop(∃ f, rvPts (up c j) j f); infer_instance
    · show BI.Storable upEmb (ybPts c j (YB m ρ c)); infer_instance
    · show BI.Storable upEmb (rvPts c j (RV m ρ c)); infer_instance

instance Rd_payload_storable (g : GSem nD τ sig) (r : ℕ) (d : Unit) :
    BI.Storable (upEmb : UEmb _ 𝕄) ((Rd (F := F) m ρ).payload g r d) := by
  show BI.Storable upEmb (Function.extend csem (payK m ρ g.1.1) (fun _ => iprop(emp)) g.2)
  by_cases h : ∃ k, csem k = g.2
  · obtain ⟨k, hk⟩ := h
    rw [← hk, csem_inj.extend_apply]; exact payK_storable m ρ _ k
  · rw [Function.extend_apply' _ _ _ h]; infer_instance

theorem duties_at (c : Dev nD) (k : Kd) (h : dutK k = true) : (Rd (F := F) m ρ).duties (kcell (c, k)) 0 = {()} := by
  dsimp only [Rd]; rw [csem_inj.extend_apply]; exact if_pos ⟨rfl, h⟩
theorem duties_none (c : Dev nD) (k : Kd) (h : dutK k = false) (r : ℕ) : (Rd (F := F) m ρ).duties (kcell (c, k)) r = ∅ := by
  dsimp only [Rd]; rw [csem_inj.extend_apply, h]; exact if_neg (fun h => by cases h.2)
theorem duties_later (g : GSem nD τ sig) : ∀ r, 1 ≤ r → (Rd (F := F) m ρ).duties g r = ∅ :=
  fun r hr => by dsimp only [Rd]; rw [if_neg fun h => by omega]
theorem amount_at (c : Dev nD) (k : Kd) (r : ℕ) (d : Unit) : (Rd (F := F) m ρ).amount (kcell (c, k)) r d = amtK k := by
  dsimp only [Rd]; rw [csem_inj.extend_apply]
theorem payload_at (c : Dev nD) (k : Kd) (r : ℕ) (d : Unit) : (Rd (F := F) m ρ).payload (kcell (c, k)) r d = payK m ρ c k := by
  dsimp only [Rd]; rw [csem_inj.extend_apply]
theorem expect_at (c : Dev nD) (k : Kd) (h : dutK k = true) : (Rd (F := F) m ρ).expect (kcell (c, k)) 0 = amtK k := by
  unfold Schedule.expect Schedule.amountOf; rw [duties_at m ρ c k h, Finset.sum_singleton, amount_at]
theorem rest_at (c : Dev nD) (k : Kd) (h : dutK k = true) :
    bigSep ((Rd (F := F) m ρ).duties (kcell (c, k)) 0 \ ∅) (fun d => (Rd (F := F) m ρ).payload (kcell (c, k)) 0 d) = payK m ρ c k := by
  rw [Finset.sdiff_empty, duties_at m ρ c k h, bigSep_singleton, payload_at]

/-! ## Slots still to go, slots done -/

def rem (s : ℕ) : Finset (Fin 32) := Finset.univ.filter fun j => s ≤ j.val
def don (s : ℕ) : Finset (Fin 32) := Finset.univ.filter fun j => 1 ≤ j.val ∧ j.val < s
def btw (s h : ℕ) : Finset (Fin 32) := Finset.univ.filter fun j => s ≤ j.val ∧ j.val < h

theorem rem_step {s : ℕ} (h : s < 32) : rem s = insert ⟨s, h⟩ (rem (s + 1)) := by
  ext j; simp only [rem, Finset.mem_filter, Finset.mem_univ, true_and, Finset.mem_insert, Fin.ext_iff]; omega
theorem rem_not {s : ℕ} (h : s < 32) : (⟨s, h⟩ : Fin 32) ∉ rem (s + 1) := by
  simp only [rem, Finset.mem_filter, Finset.mem_univ, true_and]; omega
theorem don_step {s : ℕ} (h : s < 32) (h1 : 1 ≤ s) : don (s + 1) = insert ⟨s, h⟩ (don s) := by
  ext j; simp only [don, Finset.mem_filter, Finset.mem_univ, true_and, Finset.mem_insert, Fin.ext_iff]; omega
theorem don_not {s : ℕ} (h : s < 32) : (⟨s, h⟩ : Fin 32) ∉ don s := by
  simp only [don, Finset.mem_filter, Finset.mem_univ, true_and]; omega
theorem don_one : don 1 = ∅ := by decide
theorem rem_end : rem 32 = ∅ := by decide
theorem don_end : don 32 = rem 1 := by decide
theorem mem_rem_one (j : Fin 32) : j ∈ rem 1 ↔ j ≠ 0 := by revert j; decide
theorem univ_rem : (Finset.univ : Finset (Fin 32)) = insert 0 (rem 1) := by decide
theorem zero_not_rem : (0 : Fin 32) ∉ rem 1 := by decide
theorem btw_step {s h : ℕ} (hs : s < h) (hh : h ≤ 32) : btw s h = insert ⟨s, by omega⟩ (btw (s + 1) h) := by
  ext j; simp only [btw, Finset.mem_filter, Finset.mem_univ, true_and, Finset.mem_insert, Fin.ext_iff]; omega
theorem btw_not {s h : ℕ} (hs : s < 32) : (⟨s, hs⟩ : Fin 32) ∉ btw (s + 1) h := by
  simp only [btw, Finset.mem_filter, Finset.mem_univ, true_and]; omega
theorem btw_empty (s : ℕ) : btw s s = ∅ := by
  ext j; simp only [btw, Finset.mem_filter, Finset.mem_univ, true_and, Finset.notMem_empty, iff_false]; omega

omit [FloatOps F] in
theorem fam_rem {Φ : Fin 32 → sProp 𝕄} {s : ℕ} (h : s < 32) : bigSep (rem s) Φ = iprop(Φ ⟨s, h⟩ ∗ bigSep (rem (s + 1)) Φ) := by
  rw [rem_step h, bigSep_insert (rem_not h)]; rfl
omit [FloatOps F] in
theorem fam_don {Φ : Fin 32 → sProp 𝕄} {s : ℕ} (h : s < 32) (h1 : 1 ≤ s) : bigSep (don (s + 1)) Φ = iprop(Φ ⟨s, h⟩ ∗ bigSep (don s) Φ) := by
  rw [don_step h h1, bigSep_insert (don_not h)]; rfl
omit [FloatOps F] in
theorem fam_btw {Φ : Fin 32 → sProp 𝕄} {s h : ℕ} (hs : s < h) (hh : h ≤ 32) : bigSep (btw s h) Φ = iprop(Φ ⟨s, by omega⟩ ∗ bigSep (btw (s + 1) h) Φ) := by
  rw [btw_step hs hh, bigSep_insert (btw_not _)]; rfl
omit [FloatOps F] in
theorem fam_univ {Φ : Fin 32 → sProp 𝕄} : bigSep Finset.univ Φ = iprop(Φ 0 ∗ bigSep (rem 1) Φ) := by
  rw [univ_rem, bigSep_insert zero_not_rem]; rfl

/-! ## What each device owes at launch; the levels -/

/-- The alive signals still to give, the transfers still to make. -/
def Oal (c : Dev nD) (s : ℕ) : CellTallies nD τ sig Unit := ∑ j ∈ rem s, tallyAt (alC (up c j) (opp j)) () 1
def Orc (c : Dev nD) (s : ℕ) : CellTallies nD τ sig Unit := ∑ j ∈ rem s, tallyAt (rcC (up c j) j) () N
def O₀ (c : Dev nD) : CellTallies nD τ sig Unit := Orc c 1 + Oal c 1 + tallyAt (barC c) () 1

theorem Oal_step (c : Dev nD) {s : ℕ} (h : s < 32) : Oal c s = Oal c (s + 1) + tallyAt (alC (up c ⟨s, h⟩) (opp ⟨s, h⟩)) () 1 := by
  unfold Oal; rw [rem_step h, Finset.sum_insert (rem_not h), add_comm]
theorem Orc_step (c : Dev nD) {s : ℕ} (h : s < 32) : Orc c s = Orc c (s + 1) + tallyAt (rcC (up c ⟨s, h⟩) ⟨s, h⟩) () N := by
  unfold Orc; rw [rem_step h, Finset.sum_insert (rem_not h), add_comm]
theorem Oal_end (c : Dev nD) : Oal c 32 = 0 := by unfold Oal; rw [rem_end, Finset.sum_empty]
theorem Orc_end (c : Dev nD) : Orc c 32 = 0 := by unfold Orc; rw [rem_end, Finset.sum_empty]

def L (g : GSem nD τ sig) : Finset Unit := if g.1.2 = .tc then {()} else ∅
def lv (g : GSem nD τ sig) (_ : Unit) : ℕ := Function.extend csem levK (fun _ => 0) g.2

theorem L_of_ne (g : GSem nD τ sig) (h : g.1.2 ≠ .tc) : L g = ∅ := if_neg h
theorem L_tc (c : Dev nD) (sm : SemLoc sig) : L ((c : Thread nD τ), sm) = {()} := if_pos rfl
theorem lv_at (c : Dev nD) (k : Kd) (u : Unit) : lv (kcell (c, k)) u = levK k := by
  unfold lv; rw [csem_inj.extend_apply]

theorem sum_pos_at {s : ℕ} {t : Fin 32 → GSem nD τ sig} {n : ℕ} {g : GSem nD τ sig} {u : Unit}
    (h : 0 < (∑ j ∈ rem s, (tallyAt (t j) () n : CellTallies nD τ sig Unit)) g u) : ∃ j ∈ rem s, g = t j := by
  by_contra hn
  push Not at hn
  rw [Finset.sum_apply, Finsupp.finset_sum_apply] at h
  rw [Finset.sum_eq_zero] at h
  · exact Nat.lt_irrefl 0 h
  · intro j hj
    rw [tallyAt_apply, if_neg (fun h' => hn j hj h'.1)]

theorem Orc_pos {c : Dev nD} {s : ℕ} {g : GSem nD τ sig} {u : Unit} (h : 0 < Orc c s g u) : ∃ d j, g = rcC d j := by
  obtain ⟨j, -, h⟩ := sum_pos_at h; exact ⟨_, j, h⟩
theorem Oal_pos {c : Dev nD} {s : ℕ} {g : GSem nD τ sig} {u : Unit} (h : 0 < Oal c s g u) : ∃ d j, g = alC d j := by
  obtain ⟨j, -, h⟩ := sum_pos_at h; exact ⟨_, _, h⟩

theorem O1_pos {c : Dev nD} {s s' : ℕ} {g : GSem nD τ sig} {u : Unit} (h : 0 < (Orc c s + Oal c s') g u) :
    ∃ d k, g = kcell (d, k) ∧ 2 ≤ levK k := by
  rw [Pi.add_apply, Finsupp.add_apply] at h
  rcases em (Orc c s g u = 0) with h0 | h0
  · rw [h0, Nat.zero_add] at h
    obtain ⟨d, j, hg⟩ := Oal_pos h
    exact ⟨d, some (0, j), hg, Nat.le_refl _⟩
  · obtain ⟨d, j, hg⟩ := Orc_pos (Nat.pos_of_ne_zero h0)
    exact ⟨d, some (2, j), hg, by show 2 ≤ 3; omega⟩

theorem O₀_pos {c : Dev nD} {g : GSem nD τ sig} {u : Unit} (h : 0 < O₀ c g u) : ∃ d k, g = kcell (d, k) ∧ 1 ≤ levK k := by
  unfold O₀ at h
  rw [Pi.add_apply, Finsupp.add_apply] at h
  rcases em ((Orc c 1 + Oal c 1) g u = 0) with h0 | h0
  · rw [h0, Nat.zero_add, tallyAt_apply] at h
    by_cases hg : g = barC c ∧ u = ()
    · exact ⟨c, none, hg.1, Nat.le_refl _⟩
    · rw [if_neg hg] at h; exact absurd h (Nat.lt_irrefl 0)
  · obtain ⟨d, k, hg, hl⟩ := O1_pos (Nat.pos_of_ne_zero h0)
    exact ⟨d, k, hg, by omega⟩

omit [FloatOps F] in
/-- A wait is fine below everything owed. -/
theorem mayWait_cut (c : Dev nD) (sm : SemLoc sig) (b : ℕ) (hb : lv ((c : Thread nD τ), sm) () ≤ b) (O : CellTallies nD τ sig Unit)
    (hO : ∀ g u, 0 < O g u → ∃ d k, g = kcell (d, k) ∧ b + 1 ≤ levK k) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by obtain ⟨d, k, rfl, -⟩ := hO g u hg; exact Finset.mem_singleton_self _)
    (fun p hp => by rw [Finset.mem_singleton.mp hp]; exact hb)
    (fun g u hg => by obtain ⟨d, k, rfl, hl⟩ := hO g u hg; rw [lv_at]; omega)

end Cert.Exch
-- ==== Proof.Steps.lean ====
/-
# One rule per effect of the exchange

The state of a device between two effects is one of five predicates, each over how many slots are behind it: `ASt` while
it signals that its slots are free, `BSt` and `MSt` while it waits for a neighbour's slot and sends into it, `RSt` while it
receives, `DSt` while it waits for its own transfers. Each rule moves one of them by one slot, whatever else (`R`) is held.
-/
module

public import proofs.«01_k».proof.Proof.Proto
public import Idealize.ShloMosaic.Lib.Ring

@[expose] public section

set_option maxRecDepth 100000

noncomputable section

namespace Cert.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a device's program. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable (K : Dev nD × Kd → ℕ)

/-- What every device knows throughout: the cells' invariants, that each has reached round 0, the levels. -/
def records : sProp 𝕄 :=
  iprop((bigSep Finset.univ fun ck : Dev nD × Kd => cellInv ER (Rd m ρ) (K ck) (kcell ck))
    ∗ bigSep Finset.univ fun ck : Dev nD × Kd => reached ER (kcell ck) 0)
def pers : sProp 𝕄 := iprop(records m ρ K ∗ levAts L lv)

instance records_persistent : BI.Persistent (records m ρ K) := by unfold records; infer_instance
instance pers_persistent : BI.Persistent (pers m ρ K) := by unfold pers; infer_instance

theorem pers_inv (ck : Dev nD × Kd) : pers m ρ K ⊢ cellInv ER (Rd m ρ) (K ck) (kcell ck) := by
  unfold pers records
  iintro ⟨⟨H, -⟩, -⟩
  iapply (show (bigSep Finset.univ fun ck : Dev nD × Kd => (cellInv ER (Rd m ρ) (K ck) (kcell ck) : sProp 𝕄)) ⊢ cellInv ER (Rd m ρ) (K ck) (kcell ck)
    from bigSep_elim (Finset.mem_univ ck))
  iexact H
theorem pers_reached (ck : Dev nD × Kd) : pers m ρ K ⊢ reached ER (kcell ck) 0 := by
  unfold pers records
  iintro ⟨⟨-, H⟩, -⟩
  iapply (show (bigSep Finset.univ fun ck : Dev nD × Kd => (reached ER (kcell ck) 0 : sProp 𝕄)) ⊢ reached ER (kcell ck) 0
    from bigSep_elim (Finset.mem_univ ck))
  iexact H
theorem pers_lev : pers m ρ K ⊢ levAts L lv := by
  unfold pers; iintro ⟨-, H⟩; iexact H

/-! ## The rules the steps are instances of -/

variable {α : Type}

/-- A wait for the whole of one of the device's own cells, which closes it: the payload and the counter at zero. -/
theorem wait_close {Q : α → sProp 𝕄} (c : Dev nD) (k : Kd) (hk : dutK k = true) (w : TpuEff nD τ sig (Elt F) Λ₀ .tc PUnit)
    (hw : ∀ T : PUnit → sProp 𝕄, wpE (defs₀ (F := F)) 𝒱₀ (c : Thread nD τ) none Set.univ w T = waitSpec (c : Thread nD τ) Set.univ (csem k) (amtK k) T)
    {kt : PUnit → Prog (TpuEff nD τ sig (Elt F) Λ₀ .tc) α} (O : CellTallies nD τ sig Unit)
    (hO : ∀ g u, 0 < O g u → ∃ d k', g = kcell (d, k') ∧ levK k + 1 ≤ levK k') :
    iprop(pers m ρ K ∗ cred (tallyAt (kcell (c, k)) () (amtK k)) ∗ atPos ER (kcell (c, k)) 0 ∅ 0 ∗ (∃ W, owes (c : Thread nD τ) O W))
      ⊢ iprop((((∃ W, owes (c : Thread nD τ) O W) ∗ semVal (kcell (c, k)) 0 ∗ payK m ρ c k) -∗ WP c (kt ⟨⟩) Q) -∗ WP c (.op w kt) Q) := by
  iintro ⟨#HP, Hc, Hat, ⟨%W, HO⟩⟩ Hk
  iapply (Rounds.wp_wait_rest_token 𝒱₀ ER (Rd m ρ) (c : Thread nD τ) none (κ := K (c, k)) (k' := amtK k) (sm := csem k)
      hw (Set.mem_univ _) () (O := O) (W := W) (R := 0) (m := 0) (T := ∅)
      (by rw [Nat.zero_add]; exact (expect_at m ρ c k hk).symm)) $$ [Hc HO Hat]
  · isplitr; · iapply (pers_inv m ρ K (c, k)); iexact HP
    isplitl [Hc]; · iexact Hc
    isplitl [HO]; · iexact HO
    isplitr
    · iapply ((pers_lev m ρ K).trans (mayWait_cut (F := F) c (csem k) (levK k) (Nat.le_of_eq (lv_at c k ())) O hO)); iexact HP
    iexact Hat
  iintro ⟨HO, Hat, -, Hpay⟩
  ihave Hp := (Entails.of_eq (rest_at m ρ c k hk)) $$ Hpay
  imod (Rounds.cell_close ER (Rd m ρ) (Set.mem_univ (K (c, k))) (fun h => h) (R := 0 + 1) (duties_later m ρ (kcell (c, k)))) $$ [Hat] with Hz
  · isplitr; · iapply (pers_inv m ρ K (c, k)); iexact HP
    iexact Hat
  iapply Hk
  isplitl [HO]; · iexists _; iexact HO
  isplitl [Hz]; · iexact Hz
  iexact Hp

/-- A signal of one unit into a cell whose duty asks for one. -/
theorem signal_one {Q : α → sProp 𝕄} (c n : Dev nD) (d : Dev nD) (k : Kd) (hk : dutK k = true) (ha : amtK k = 1) (sem : Sem sig) (hn : n = d) (hs : SemLoc.reg sem = csem k)
    {kt : PUnit → Prog (TpuEff nD τ sig (Elt F) Λ₀ .tc) α} {O' : CellTallies nD τ sig Unit} (O : CellTallies nD τ sig Unit)
    (hO : O' = O + tallyAt (kcell (d, k)) () 1) :
    iprop(pers m ρ K ∗ (∃ W, owes (c : Thread nD τ) O' W) ∗ dutyTok ER (kcell (d, k)) 0 () ∗ payK m ρ d k)
      ⊢ iprop(((∃ W, owes (c : Thread nD τ) O W) -∗ WP c (kt ⟨⟩) Q)
        -∗ WP c (.op (.semSignal (n : Thread nD τ) sem (1#32 : BitVec 32).toInt) kt) Q) := by
  subst hn
  iintro ⟨#HP, ⟨%W, HO⟩, Ht, Hp⟩ Hk
  have hk' : ((n : Thread nD τ), SemLoc.reg sem) = kcell (n, k) := by rw [hs]
  iapply (Rounds.wp_signal 𝒱₀ ER (Rd m ρ) (c : Thread nD τ) none (dst := (n : Thread nD τ)) (sem := sem) (r := 0) (κ := K (n, k)) (k' := 1)
      (d := ()) (by rw [hk', duties_at m ρ n k hk]; exact Finset.mem_singleton_self _) (by rw [hk', amount_at]; exact ha) () (O₀ := O') O (by rw [hk']; exact hO) (W := W))
    $$ [HO Ht Hp]
  · rw [hk', payload_at]
    isplitr; · iapply (pers_inv m ρ K (n, k)); iexact HP
    isplitl [HO]; · iexact HO
    isplitl [Ht]; · iexact Ht
    isplitl [Hp]; · iexact Hp
    iapply (pers_reached m ρ K (n, k)); iexact HP
  iintro HO
  iapply Hk
  iexists W; iexact HO

/-- What lands in slot `j` of device `d`'s receive buffer is slot `j` of the products of the device `j` places before. -/
theorem landed_eq (c : Dev nD) (j : Fin 32) (fd : (cc0_scratch2 : Ref sig .tc).ty.Contents (Elt F)) :
    ((slotM rvM j).view.loc (up c j : Thread nD τ) ↦[(slotM rvM j).view.set]{fullShare}
        ((slotM rvM j).view.write (Elt F) fd ((slotM ybM j).view.read (Elt F) (YB m ρ c)) Finset.univ) : sProp 𝕄) = rvPts (up c j) j (RV m ρ (up c j)) := by
  unfold rvPts
  refine pointsTo_congr fun i hi => ?_
  obtain ⟨x, -, rfl⟩ := Finset.mem_map.mp hi
  rw [View.write_emb_of_mem _ _ (Finset.mem_univ x), View.read_apply]
  have hv : (((slotM rvM j).view.emb x : S32x16x512.Idx) 0).val = j.val := (mem_slot j _).mp (by rw [← set_rv]; exact View.emb_mem_set _ x)
  show YB m ρ c ((slotM rvM j).view.emb x) = YB m ρ (dn (up c j) ⟨(((slotM rvM j).view.emb x : S32x16x512.Idx) 0).val, _⟩) ((slotM rvM j).view.emb x)
  rw [show (⟨(((slotM rvM j).view.emb x : S32x16x512.Idx) 0).val, Fin.isLt _⟩ : Fin 32) = j from Fin.ext hv, dn_up]

/-- The transfer of slot `j` to the device `j` places on. -/
theorem send_slot {Q : α → sProp 𝕄} (c n : Dev nD) (j : Fin 32) (hj : j ≠ 0) (hn : n = up c j) {hsc : (slotM rvM j : Memref sig (Dev.tc n : Thread nD τ).2.kind .vmem S16x512 .bf16).view.ref.isScScratch = false}
    {hsrc : (slotM ybM j).view.WordExact} {hdst : (slotM rvM j).view.WordExact}
    {hsem : DmaTarget.Typed .vmem (.dma (rcS j)) (.remote (Dev.tc n : Thread nD τ) (slotM rvM j) (.dma (sdS j)) hsc)}
    {kt : PUnit → Prog (TpuEff nD τ sig (Elt F) Λ₀ .tc) α} {O' : CellTallies nD τ sig Unit} (O : CellTallies nD τ sig Unit)
    (hO : O' = O + tallyAt (rcC (up c j) j) () N) :
    iprop(pers m ρ K ∗ (∃ W, owes (c : Thread nD τ) O' W) ∗ (dutyTok ER (rcC (up c j) j) 0 () ∗ dutyTok ER (sdC c j) 0 ())
        ∗ (∃ f, rvPts (up c j) j f) ∗ ybPts c j (YB m ρ c))
      ⊢ iprop((((∃ W, owes (c : Thread nD τ) O W) ∗ cred (tallyAt (sdC c j) () N)) -∗ WP c (kt ⟨⟩) Q)
        -∗ WP c (.op (.enqueueDma (slotM ybM j) (.remote (Dev.tc n : Thread nD τ) (slotM rvM j) (.dma (sdS j)) hsc) (.dma (rcS j)) hsrc hdst hsem) kt) Q) := by
  subst hn
  have hj1 : dutK (some (1, j)) = true := decide_eq_true hj
  have hj2 : dutK (some (2, j)) = true := decide_eq_true hj
  iintro ⟨#HP, ⟨%W, HO⟩, ⟨HtV, HtS⟩, ⟨%fd, Hrv⟩, Hyb⟩ Hk
  unfold rvPts ybPts
  iapply (Rounds.wp_send_pointsTo 𝒱₀ ER (Rd m ρ) (c : Thread nD τ) none (κ₁ := K (c, some (1, j))) (κ₂ := K (up c j, some (2, j)))
    (c' := (up c j : Thread nD τ)) (src := slotM ybM j) (dst := slotM rvM j) (sS := .dma (sdS j)) (sem := .dma (rcS j)) (r₁ := 0) (r₂ := 0) (d₁ := ()) (d₂ := ()) (fd := fd) (fs := YB m ρ c) (q := fullShare)
    (by rw [show ((c : Thread nD τ), SemLoc.dma (sdS j)) = kcell (c, some (1, j)) from rfl, duties_at m ρ _ _ hj1]; exact Finset.mem_singleton_self _)
    (by rw [show ((up c j : Thread nD τ), SemLoc.dma (rcS j)) = kcell (up c j, some (2, j)) from rfl, duties_at m ρ _ _ hj2]; exact Finset.mem_singleton_self _)
    () () N (N_rv j) (amount_at m ρ c (some (1, j)) 0 ()) (amount_at m ρ (up c j) (some (2, j)) 0 ()) (O₀ := O') O hO (W := W)
    (by rw [show ((c : Thread nD τ), SemLoc.dma (sdS j)) = kcell (c, some (1, j)) from rfl, payload_at]; exact BI.Entails.refl _)
    (by rw [show ((up c j : Thread nD τ), SemLoc.dma (rcS j)) = kcell (up c j, some (2, j)) from rfl, payload_at]; exact Entails.of_eq (landed_eq m ρ c j fd)))
    $$ [HO HtV HtS Hrv Hyb]
  · isplitr; · iapply (pers_inv m ρ K (c, some (1, j))); iexact HP
    isplitr; · iapply (pers_inv m ρ K (up c j, some (2, j))); iexact HP
    isplitl [Hyb]; · iexact Hyb
    isplitl [Hrv]; · iexact Hrv
    isplitl [HO]; · iexact HO
    isplitl [HtS]; · iexact HtS
    isplitr; · iapply (pers_reached m ρ K (c, some (1, j))); iexact HP
    isplitl [HtV]; · iexact HtV
    iapply (pers_reached m ρ K (up c j, some (2, j))); iexact HP
  iintro ⟨Hc, HO⟩
  iapply Hk
  isplitl [HO]; · iexists W; iexact HO
  iexact Hc

/-! ## The states -/

/-- Before the alive signal of slot `s`. -/
def ASt (c : Dev nD) (s : ℕ) : sProp 𝕄 :=
  iprop(pers m ρ K ∗ (∃ W, owes (c : Thread nD τ) (Orc c 1 + Oal c s) W)
    ∗ bigSep (rem s) fun j => iprop(dutyTok ER (alC (up c j) (opp j)) 0 () ∗ ∃ f, rvPts c (opp j) f))

/-- What is left of the alive cells before the wait of slot `s`, -/
def alFam (c : Dev nD) (s : ℕ) : sProp 𝕄 :=
  iprop((bigSep (rem s) fun j => iprop(cred (tallyAt (alC c j) () 1) ∗ atPos ER (alC c j) 0 ∅ 0)) ∗ bigSep (don s) fun j => semVal (alC c j) 0)
/-- and of the transfers before that of slot `s`, slots below `h` computed. -/
def sdFam (c : Dev nD) (s h : ℕ) : sProp 𝕄 :=
  iprop((∃ W, owes (c : Thread nD τ) (Orc c s) W)
    ∗ (bigSep (rem s) fun j => iprop(dutyTok ER (rcC (up c j) j) 0 () ∗ dutyTok ER (sdC c j) 0 ()))
    ∗ (bigSep (don s) fun j => cred (tallyAt (sdC c j) () N))
    ∗ bigSep (btw s h) fun j => ybPts c j (YB m ρ c))

/-- Before the alive wait of slot `s`; -/
def BSt (c : Dev nD) (s h : ℕ) : sProp 𝕄 := iprop(pers m ρ K ∗ alFam c s ∗ sdFam m ρ c s h)
/-- between the wait and the transfer. -/
def MSt (c : Dev nD) (s h : ℕ) : sProp 𝕄 :=
  iprop(pers m ρ K ∗ alFam c (s + 1) ∗ sdFam m ρ c s h ∗ bigSep (don (s + 1) \ don s) fun j => iprop(∃ f, rvPts (up c j) j f))

/-- Before the receive wait of slot `s`. -/
def RSt (c : Dev nD) (s : ℕ) : sProp 𝕄 :=
  iprop(pers m ρ K ∗ (∃ W, owes (c : Thread nD τ) 0 W)
    ∗ (bigSep (rem s) fun j => iprop(cred (tallyAt (rcC c j) () N) ∗ atPos ER (rcC c j) 0 ∅ 0))
    ∗ bigSep (don s) fun j => iprop(semVal (rcC c j) 0 ∗ rvPts c j (RV m ρ c)))

/-- Before the send wait of slot `s`. -/
def DSt (c : Dev nD) (s : ℕ) : sProp 𝕄 :=
  iprop(pers m ρ K ∗ (∃ W, owes (c : Thread nD τ) 0 W)
    ∗ (bigSep (rem s) fun j => iprop(cred (tallyAt (sdC c j) () N) ∗ atPos ER (sdC c j) 0 ∅ 0))
    ∗ bigSep (don s) fun j => iprop(semVal (sdC c j) 0 ∗ ybPts c j (YB m ρ c)))

/-! ## The steps -/

theorem on_whole (b : Ref sig .tc) (M : Finset b.ty.shape.Idx) : (View.whole b).setOn M = M := by
  ext i
  constructor
  · intro h; obtain ⟨j, hj, rfl⟩ := Finset.mem_map.mp h; exact hj
  · intro h; exact Finset.mem_map.mpr ⟨i, h, rfl⟩

theorem don_new {s : ℕ} (h : s < 32) (h1 : 1 ≤ s) : don (s + 1) \ don s = {⟨s, h⟩} := by
  ext j; simp only [don, Finset.mem_sdiff, Finset.mem_filter, Finset.mem_univ, true_and, Finset.mem_singleton, Fin.ext_iff]; omega

theorem sig_step {Q : α → sProp 𝕄} {R : sProp 𝕄} (c n : Dev nD) (s : ℕ) (h : s < 32) (hs : ⟨s, h⟩ ≠ (0 : Fin 32)) (sem : Sem sig)
    (hn : n = up c ⟨s, h⟩) (he : sem = alS (opp ⟨s, h⟩)) {kt : PUnit → Prog (TpuEff nD τ sig (Elt F) Λ₀ .tc) α}
    (H : iprop(ASt m ρ K c (s + 1) ∗ R) ⊢ WP c (kt ⟨⟩) Q) :
    iprop(ASt m ρ K c s ∗ R) ⊢ WP c (.op (.semSignal (n : Thread nD τ) sem (1#32 : BitVec 32).toInt) kt) Q := by
  unfold ASt
  rw [fam_rem h]
  iintro ⟨⟨#HP, HO, ⟨Ht, Hs⟩, Hrest⟩, HR⟩
  iapply (signal_one m ρ K c n (up c ⟨s, h⟩) (some (0, opp ⟨s, h⟩)) (decide_eq_true (by intro h0; apply hs; rw [← opp_opp ⟨s, h⟩, h0]; rfl)) rfl
    sem hn (by rw [he]) (O' := Orc c 1 + Oal c s) (Orc c 1 + Oal c (s + 1)) (by rw [Oal_step c h, add_assoc])) $$ [HO Ht Hs]
  · isplitr; · iexact HP
    isplitl [HO]; · iexact HO
    isplitl [Ht]; · iexact Ht
    iapply (show iprop(∃ f, rvPts (F := F) c (opp ⟨s, h⟩) f) ⊢ payK m ρ (up c ⟨s, h⟩) (some (0, opp ⟨s, h⟩)) from
      Entails.of_eq (by show _ = iprop(∃ f, rvPts (up (up c ⟨s, h⟩) (opp ⟨s, h⟩)) (opp ⟨s, h⟩) f); rw [up_opp])) $$ Hs
  iintro HO
  iapply H
  unfold ASt
  isplitr [HR]
  · isplitr; · iexact HP
    isplitl [HO]; · iexact HO
    iexact Hrest
  iexact HR

theorem alive_step {Q : α → sProp 𝕄} {R : sProp 𝕄} (c : Dev nD) (s h : ℕ) (hs : s < 32) (h1 : 1 ≤ s) (sem : Sem sig)
    (he : sem = alS ⟨s, hs⟩) {kt : PUnit → Prog (TpuEff nD τ sig (Elt F) Λ₀ .tc) α}
    (H : iprop(MSt m ρ K c s h ∗ R) ⊢ WP c (kt ⟨⟩) Q) :
    iprop(BSt m ρ K c s h ∗ R) ⊢ WP c (.op (.semWait sem (1#32 : BitVec 32).toInt) kt) Q := by
  subst he
  unfold BSt alFam sdFam
  rw [fam_rem (s := s) hs]
  iintro ⟨⟨#HP, ⟨⟨⟨Hc, Hat⟩, Hrest⟩, Hz⟩, HO, Hs⟩, HR⟩
  iapply (wait_close m ρ K c (some (0, ⟨s, hs⟩)) (decide_eq_true fun h0 => absurd (congrArg Fin.val h0) (by show s ≠ 0; omega)) _ (wpE_semWait_eq 𝒱₀ (c : Thread nD τ) none Set.univ) (kt := kt) (Orc c s)
    (fun g u hg => by obtain ⟨d, j, rfl⟩ := Orc_pos hg; exact ⟨d, some (2, j), rfl, Nat.le_refl 3⟩)) $$ [Hc Hat HO]
  · isplitr; · iexact HP
    isplitl [Hc]; · iexact Hc
    isplitl [Hat]; · iexact Hat
    iexact HO
  iintro ⟨HO, Hv, Hp⟩
  iapply H
  unfold MSt alFam sdFam
  rw [don_new hs h1, bigSep_singleton, fam_don hs h1]
  isplitr [HR]
  · isplitr; · iexact HP
    isplitl [Hrest Hz Hv]
    · isplitl [Hrest]; · iexact Hrest
      isplitl [Hv]; · iexact Hv
      iexact Hz
    isplitl [HO Hs]
    · isplitl [HO]; · iexact HO
      iexact Hs
    iapply (Entails.of_eq (show payK m ρ c (some (0, ⟨s, hs⟩)) = iprop(∃ f, rvPts (up c ⟨s, hs⟩) ⟨s, hs⟩ f) from rfl)) $$ Hp
  iexact HR

theorem send_step {Q : α → sProp 𝕄} {R : sProp 𝕄} (c n : Dev nD) (s h : ℕ) (hs : s < 32) (h1 : 1 ≤ s) (hsh : s < h) (hh : h ≤ 32)
    (hn : n = up c ⟨s, hs⟩) {hsc : (slotM rvM ⟨s, hs⟩ : Memref sig (Dev.tc n : Thread nD τ).2.kind .vmem S16x512 .bf16).view.ref.isScScratch = false}
    {hsrc : (slotM ybM ⟨s, hs⟩).view.WordExact} {hdst : (slotM rvM ⟨s, hs⟩).view.WordExact}
    {hsem : DmaTarget.Typed .vmem (.dma (rcS ⟨s, hs⟩)) (.remote (Dev.tc n : Thread nD τ) (slotM rvM ⟨s, hs⟩) (.dma (sdS ⟨s, hs⟩)) hsc)}
    {kt : PUnit → Prog (TpuEff nD τ sig (Elt F) Λ₀ .tc) α}
    (H : iprop(BSt m ρ K c (s + 1) h ∗ R) ⊢ WP c (kt ⟨⟩) Q) :
    iprop(MSt m ρ K c s h ∗ R) ⊢ WP c (.op (.enqueueDma (slotM ybM ⟨s, hs⟩) (.remote (Dev.tc n : Thread nD τ) (slotM rvM ⟨s, hs⟩) (.dma (sdS ⟨s, hs⟩)) hsc)
        (.dma (rcS ⟨s, hs⟩)) hsrc hdst hsem) kt) Q := by
  unfold MSt sdFam
  rw [don_new hs h1, bigSep_singleton, fam_rem (s := s) hs, fam_btw hsh hh]
  iintro ⟨⟨#HP, Hal, ⟨HO, ⟨Htok, Htoks⟩, Hcr, Hy, Hys⟩, Hrv⟩, HR⟩
  iapply (send_slot m ρ K c n ⟨s, hs⟩ (fun h0 => absurd (congrArg Fin.val h0) (by show s ≠ 0; omega)) hn (kt := kt) (O' := Orc c s) (Orc c (s + 1)) (Orc_step c hs))
    $$ [HO Htok Hrv Hy]
  · isplitr; · iexact HP
    isplitl [HO]; · iexact HO
    isplitl [Htok]; · iexact Htok
    isplitl [Hrv]; · iexact Hrv
    iexact Hy
  iintro ⟨HO, Hc⟩
  iapply H
  unfold BSt sdFam
  rw [fam_don hs h1]
  isplitr [HR]
  · isplitr; · iexact HP
    isplitl [Hal]; · iexact Hal
    isplitl [HO]; · iexact HO
    isplitl [Htoks]; · iexact Htoks
    isplitl [Hc Hcr]
    · isplitl [Hc]; · iexact Hc
      iexact Hcr
    iexact Hys
  iexact HR

theorem recv_step {Q : α → sProp 𝕄} {R : sProp 𝕄} (c : Dev nD) (s : ℕ) (hs : s < 32) (h1 : 1 ≤ s)
    {hsrc : (slotM ybM ⟨s, hs⟩).view.WordExact} {hdst : (slotM rvM ⟨s, hs⟩).view.WordExact}
    {kt : PUnit → Prog (TpuEff nD τ sig (Elt F) Λ₀ .tc) α}
    (H : iprop(RSt m ρ K c (s + 1) ∗ R) ⊢ WP c (kt ⟨⟩) Q) :
    iprop(RSt m ρ K c s ∗ R) ⊢ WP c (.op (.waitDma2 (rcS ⟨s, hs⟩) (slotM ybM ⟨s, hs⟩) (slotM rvM ⟨s, hs⟩) hsrc hdst) kt) Q := by
  unfold RSt
  rw [fam_rem (s := s) hs]
  iintro ⟨⟨#HP, HO, ⟨⟨Hc, Hat⟩, Hrest⟩, Hdone⟩, HR⟩
  iapply (wait_close m ρ K c (some (2, ⟨s, hs⟩)) (decide_eq_true fun h0 => absurd (congrArg Fin.val h0) (by show s ≠ 0; omega)) _
    (fun T => (wpE_waitDma2_eq 𝒱₀ (c : Thread nD τ) none Set.univ T).trans (by rw [N_rv]; rfl)) (kt := kt) 0
    (fun g u hg => absurd hg (Nat.lt_irrefl 0))) $$ [Hc Hat HO]
  · isplitr; · iexact HP
    isplitl [Hc]; · iexact Hc
    isplitl [Hat]; · iexact Hat
    iexact HO
  iintro ⟨HO, Hv, Hp⟩
  iapply H
  unfold RSt
  rw [fam_don hs h1]
  isplitr [HR]
  · isplitr; · iexact HP
    isplitl [HO]; · iexact HO
    isplitl [Hrest]; · iexact Hrest
    isplitl [Hv Hp]
    · isplitl [Hv]; · iexact Hv
      iapply (Entails.of_eq (show payK m ρ c (some (2, ⟨s, hs⟩)) = rvPts c ⟨s, hs⟩ (RV m ρ c) from rfl)) $$ Hp
    iexact Hdone
  iexact HR

theorem sent_step {Q : α → sProp 𝕄} {R : sProp 𝕄} (c : Dev nD) (s : ℕ) (hs : s < 32) (h1 : 1 ≤ s)
    {hsrc : (slotM rvM ⟨s, hs⟩).view.WordExact} {hdst : (slotM ybM ⟨s, hs⟩).view.WordExact}
    {kt : PUnit → Prog (TpuEff nD τ sig (Elt F) Λ₀ .tc) α}
    (H : iprop(DSt m ρ K c (s + 1) ∗ R) ⊢ WP c (kt ⟨⟩) Q) :
    iprop(DSt m ρ K c s ∗ R) ⊢ WP c (.op (.waitDma2 (sdS ⟨s, hs⟩) (slotM rvM ⟨s, hs⟩) (slotM ybM ⟨s, hs⟩) hsrc hdst) kt) Q := by
  unfold DSt
  rw [fam_rem (s := s) hs]
  iintro ⟨⟨#HP, HO, ⟨⟨Hc, Hat⟩, Hrest⟩, Hdone⟩, HR⟩
  iapply (wait_close m ρ K c (some (1, ⟨s, hs⟩)) (decide_eq_true fun h0 => absurd (congrArg Fin.val h0) (by show s ≠ 0; omega)) _
    (fun T => (wpE_waitDma2_eq 𝒱₀ (c : Thread nD τ) none Set.univ T).trans (by rw [N_yb]; rfl)) (kt := kt) 0
    (fun g u hg => absurd hg (Nat.lt_irrefl 0))) $$ [Hc Hat HO]
  · isplitr; · iexact HP
    isplitl [Hc]; · iexact Hc
    isplitl [Hat]; · iexact Hat
    iexact HO
  iintro ⟨HO, Hv, Hp⟩
  iapply H
  unfold DSt
  rw [fam_don hs h1]
  isplitr [HR]
  · isplitr; · iexact HP
    isplitl [HO]; · iexact HO
    isplitl [Hrest]; · iexact Hrest
    isplitl [Hv Hp]
    · isplitl [Hv]; · iexact Hv
      iapply (Entails.of_eq (show payK m ρ c (some (1, ⟨s, hs⟩)) = ybPts c ⟨s, hs⟩ (YB m ρ c) from rfl)) $$ Hp
    iexact Hdone
  iexact HR

/-- A slot that has landed is read. -/
theorem rload_step {Q : α → sProp 𝕄} {R : sProp 𝕄} (c : Dev nD) (s : ℕ) (j : Fin 32) (hj : j ∈ don s) {hl : rvM.view.LoadsAt (slotR j).toLoadRect}
    {kt : Vec F S1x16x512 .bf16 → Prog (TpuEff nD τ sig (Elt F) Λ₀ .tc) α}
    (H : iprop(RSt m ρ K c s ∗ R) ⊢ WP c (kt (rcv m ρ c j)) Q) :
    iprop(RSt m ρ K c s ∗ R) ⊢ WP c (.op (.load rvM (slotR j).toLoadRect hl) kt) Q := by
  have e : bigSep (don s) (fun j => iprop(semVal (rcC c j) 0 ∗ rvPts c j (RV m ρ c) : sProp 𝕄))
      = iprop((semVal (rcC c j) 0 ∗ rvPts c j (RV m ρ c)) ∗ bigSep ((don s).erase j) fun j => iprop(semVal (rcC c j) 0 ∗ rvPts c j (RV m ρ c))) := by
    conv_lhs => rw [← Finset.insert_erase hj]
    rw [bigSep_insert (Finset.notMem_erase _ _)]; rfl
  unfold RSt at H ⊢
  rw [e] at H ⊢
  iintro ⟨⟨#HP, HO, Hrest, ⟨Hv, Hp⟩, Hdone⟩, HR⟩
  unfold rvPts at H ⊢
  iapply (wp_load 𝒱₀ (c : Thread nD τ) none Set.univ (m := rvM) (r := (slotR j).toLoadRect) (hl := hl) (k := kt) (S := (slotM rvM j).view.set) (q := fullShare) (f := RV m ρ c)
    (by rw [set_rv, on_whole])) $$ Hp
  iintro Hp
  iapply H
  isplitr [HR]
  · isplitr; · iexact HP
    isplitl [HO]; · iexact HO
    isplitl [Hrest]; · iexact Hrest
    isplitr [Hdone]
    · isplitl [Hv]; · iexact Hv
      iexact Hp
    iexact Hdone
  iexact HR

/-! ### Whole buffers -/

/-- A buffer held whole. -/
def held (c : Dev nD) {S : Shape} {e : EltTy} (M : Memref sig .tc .vmem S e) (f : M.view.ty.Contents (Elt F)) : sProp 𝕄 :=
  M.view.loc (c : Thread nD τ) ↦[Finset.univ]{fullShare} f

theorem load_held {Q : α → sProp 𝕄} {R : sProp 𝕄} (c : Dev nD) {S : Shape} {e : EltTy} (M : Memref sig .tc .vmem S e) (f : M.view.ty.Contents (Elt F)) {r : LoadRect S}
    {hl : M.view.LoadsAt r} {kt : (r.shape.Idx → Elt F e) → Prog (TpuEff nD τ sig (Elt F) Λ₀ .tc) α}
    (H : iprop(held c M f ∗ R) ⊢ WP c (kt (M.view.readAt (Elt F) r f)) Q) :
    iprop(held c M f ∗ R) ⊢ WP c (.op (.load M r hl) kt) Q := by
  unfold held at H ⊢
  iintro ⟨Hb, HR⟩
  iapply (wp_load 𝒱₀ (c : Thread nD τ) none Set.univ (m := M) (r := r) (hl := hl) (k := kt) (S := Finset.univ) (q := fullShare) (f := f)
    (Finset.subset_univ _)) $$ Hb
  iintro Hb
  iapply H
  isplitl [Hb]; · iexact Hb
  iexact HR

theorem store_held {Q : α → sProp 𝕄} {R : sProp 𝕄} (c : Dev nD) {S : Shape} {e : EltTy} (M : Memref sig .tc .vmem S e) (f : M.view.ty.Contents (Elt F)) {r : Rect S}
    {w : r.shape.Idx → Elt F e} {hx : (M.access r).Stores Finset.univ} {hm : (Finset.univ : Finset r.shape.Idx) = Finset.univ ∨ ∀ a, r.stride a = 1}
    {kt : PUnit → Prog (TpuEff nD τ sig (Elt F) Λ₀ .tc) α} (g : M.view.ty.Contents (Elt F))
    (hg : (M.access r).write (Elt F) f w Finset.univ = g)
    (H : iprop(held c M g ∗ R) ⊢ WP c (kt ⟨⟩) Q) :
    iprop(held c M f ∗ R) ⊢ WP c (.op (.store M r w Finset.univ hx hm) kt) Q := by
  subst hg
  unfold held at H ⊢
  iintro ⟨Hb, HR⟩
  iapply (wp_store 𝒱₀ (c : Thread nD τ) none Set.univ (m := M) (r := r) (w := w) (hx := hx) (hm := hm) (k := kt) (S := Finset.univ) (f := f)
    (Finset.subset_univ _)) $$ Hb
  iintro Hb
  iapply H
  isplitl [Hb]; · iexact Hb
  iexact HR

/-! ### Eight slots at a time -/

theorem inbC (k : Fin 4) : ∀ a, (![8 * k.val, 0, 0] : Fin 3 → Nat) a + S8x16x512.size a ≤ S32x16x512.size a := by
  revert k; decide
/-- Chunk `k` of the product buffer: slots `8k` to `8k + 7`. -/
abbrev chunkR (k : Fin 4) : Rect S32x16x512 := Rect.unit (s := S32x16x512) ![8 * k.val, 0, 0] S8x16x512.size (inbC k)
def chunk (c : Dev nD) (k : Fin 4) : sProp 𝕄 := iprop(∃ f : (cc0_scratch1 : Ref sig .tc).ty.Contents (Elt F), ((c : Thread nD τ).loc cc0_scratch1) ↦[(chunkR k).set]{fullShare} f)

theorem mem_chunk (k : Fin 4) (i : S32x16x512.Idx) : i ∈ (chunkR k).set ↔ 8 * k.val ≤ (i 0).val ∧ (i 0).val < 8 * k.val + 8 := mem_rows _ i
theorem chunk_disj (k k' : Fin 4) (h : k ≠ k') : Disjoint (chunkR k).set (chunkR k').set :=
  Finset.disjoint_left.mpr fun i hi hi' => by
    rw [mem_chunk] at hi hi'; exact h (Fin.ext (by omega))
theorem chunk_cover : Finset.univ.biUnion (fun k : Fin 4 => (chunkR k).set) = Finset.univ := by
  ext i
  simp only [Finset.mem_biUnion, Finset.mem_univ, true_and, iff_true]
  have : (i 0).val < 32 := (i 0).isLt
  exact ⟨⟨(i 0).val / 8, by omega⟩, (mem_chunk _ i).mpr ⟨by show 8 * ((i 0).val / 8) ≤ _; omega, by show _ < 8 * ((i 0).val / 8) + 8; omega⟩⟩
theorem slot_cover : Finset.univ.biUnion (fun j : Fin 32 => (slotR j).set) = Finset.univ := by
  ext i
  simp only [Finset.mem_biUnion, Finset.mem_univ, true_and, iff_true]
  exact ⟨⟨(i 0).val, (i 0).isLt⟩, (mem_slot _ i).mpr rfl⟩

theorem chunks_intro (c : Dev nD) (f : (cc0_scratch1 : Ref sig .tc).ty.Contents (Elt F)) :
    held c ybM f ⊢ iprop(chunk c 0 ∗ chunk c 1 ∗ chunk c 2 ∗ chunk (F := F) c 3) := by
  unfold held
  refine (Entails.of_eq (Ring.pointsTo_blocks (ℓ := (c : Thread nD τ).loc cc0_scratch1) (q := fullShare) (fun k : Fin 4 => (chunkR k).set) chunk_disj chunk_cover f)).trans ?_
  rw [bigSep_univ_eq_bigSepL [0, 1, 2, 3] (by decide) (by decide), bigSepL_cons_cons, bigSepL_cons_cons,
    bigSepL_cons_cons, bigSepL_singleton]
  have h : ∀ k : Fin 4, ((((c : Thread nD τ).loc cc0_scratch1) ↦[(chunkR k).set]{fullShare} f : sProp 𝕄) ⊢ chunk c k) := fun k => by
    unfold chunk; iintro H; iexists f; iexact H
  exact BI.sep_mono (h 0) (BI.sep_mono (h 1) (BI.sep_mono (h 2) (h 3)))

theorem btw_chunk (k : Fin 4) : (btw (8 * k.val) (8 * k.val + 8)).biUnion (fun j => (slotR j).set) = (chunkR k).set := by
  ext i
  simp only [Finset.mem_biUnion, btw, Finset.mem_filter, Finset.mem_univ, true_and]
  rw [mem_chunk]
  constructor
  · rintro ⟨j, hj, hi⟩; rw [mem_slot] at hi; omega
  · intro h; exact ⟨⟨(i 0).val, (i 0).isLt⟩, h, (mem_slot _ i).mpr rfl⟩

/-- The chunk written is the product buffer's. -/
theorem chunk_written (c : Dev nD) (k : Fin 4) (f : (cc0_scratch1 : Ref sig .tc).ty.Contents (Elt F)) (i : S32x16x512.Idx) (hi : i ∈ (chunkR k).set) :
    (ybM.access (chunkR k)).write (Elt F) f (chunkV m ρ c k) Finset.univ i = YB m ρ c i := by
  have hs : i ∈ (ybM.access (chunkR k)).set := by rw [show (ybM.access (chunkR k)).set = (chunkR k).set from View.set_slice_whole _ _]; exact hi
  obtain ⟨x, -, hx⟩ := Finset.mem_map.mp hs
  rw [← hx, View.write_emb_of_mem _ _ (Finset.mem_univ x)]
  have h0 : (((ybM.access (chunkR k)).emb x : S32x16x512.Idx) 0).val = 8 * k.val + (x 0).val := by
    show 8 * k.val + 1 * (x 0).val = _; rw [Nat.one_mul]
  have h1 : (((ybM.access (chunkR k)).emb x : S32x16x512.Idx) 1).val = (x 1).val := by
    show 0 + 1 * (x 1).val = _; omega
  have h2 : (((ybM.access (chunkR k)).emb x : S32x16x512.Idx) 2).val = (x 2).val := by
    show 0 + 1 * (x 2).val = _; omega
  have hx0 : (x 0).val < 8 := (x 0).isLt
  unfold YB
  have hk : (⟨(((ybM.access (chunkR k)).emb x : S32x16x512.Idx) 0).val / 8, by have := (((ybM.access (chunkR k)).emb x : S32x16x512.Idx) 0).isLt; omega⟩ : Fin 4) = k :=
    Fin.ext (by show _ / 8 = _; rw [h0]; omega)
  show chunkV m ρ c k x = chunkV m ρ c _ _
  rw [hk]
  exact congrArg _ (ix8_ext x (by show _ = _ % 8; rw [h0]; omega) h1.symm h2.symm)

/-- The dead load before a chunk is stored. -/
theorem chunk_load {Q : α → sProp 𝕄} {R : sProp 𝕄} (c : Dev nD) (k : Fin 4) {hl : ybM.view.LoadsAt (chunkR k).toLoadRect}
    {kt : Vec F S8x16x512 .bf16 → Prog (TpuEff nD τ sig (Elt F) Λ₀ .tc) α}
    (H : ∀ v, iprop(chunk (F := F) c k ∗ R) ⊢ WP c (kt v) Q) :
    iprop(chunk (F := F) c k ∗ R) ⊢ WP c (.op (.load ybM (chunkR k).toLoadRect hl) kt) Q := by
  unfold chunk at H ⊢
  iintro ⟨⟨%f, Hb⟩, HR⟩
  iapply (wp_load 𝒱₀ (c : Thread nD τ) none Set.univ (m := ybM) (r := (chunkR k).toLoadRect) (hl := hl) (k := kt) (S := (chunkR k).set) (q := fullShare) (f := f)
    (by rw [on_whole])) $$ Hb
  iintro Hb
  iapply (H _)
  isplitl [Hb]; · iexists f; iexact Hb
  iexact HR

theorem chunk_store {Q : α → sProp 𝕄} {R : sProp 𝕄} (c : Dev nD) (k : Fin 4) {w : Vec F S8x16x512 .bf16} (hw : w = chunkV m ρ c k)
    {hx : (ybM.access (chunkR k)).Stores Finset.univ} {hm : Finset.univ = Finset.univ ∨ ∀ a, (chunkR k).stride a = 1}
    {kt : PUnit → Prog (TpuEff nD τ sig (Elt F) Λ₀ .tc) α}
    (H : iprop((bigSep (btw (8 * k.val) (8 * k.val + 8)) fun j => ybPts c j (YB m ρ c)) ∗ R) ⊢ WP c (kt ⟨⟩) Q) :
    iprop(chunk (F := F) c k ∗ R) ⊢ WP c (.op (.store ybM (chunkR k) w Finset.univ hx hm) kt) Q := by
  subst hw
  unfold chunk
  iintro ⟨⟨%f, Hb⟩, HR⟩
  iapply (wp_store 𝒱₀ (c : Thread nD τ) none Set.univ (m := ybM) (r := chunkR k) (w := chunkV m ρ c k) (hx := hx) (hm := hm) (k := kt) (S := (chunkR k).set) (f := f)
    (by rw [View.setOn_univ, show (ybM.access (chunkR k)).set = (chunkR k).set from View.set_slice_whole _ _])) $$ Hb
  iintro Hb
  iapply H
  isplitl [Hb]
  · iapply (show ((((c : Thread nD τ).loc cc0_scratch1) ↦[(chunkR k).set]{fullShare} ((ybM.access (chunkR k)).write (Elt F) f (chunkV m ρ c k) Finset.univ) : sProp 𝕄)
      ⊢ bigSep (btw (8 * k.val) (8 * k.val + 8)) fun j => ybPts c j (YB m ρ c)) from ?_) $$ Hb
    rw [pointsTo_congr (chunk_written m ρ c k f), ← btw_chunk k, pointsTo_biUnion _ _ fun t _ t' _ h => slot_disj t t' h]
    refine Entails.of_eq (bigSep_congr fun j _ => ?_)
    unfold ybPts; rw [set_yb]
  iexact HR

/-- From the second chunk on: the slots stored are the next ones sent. -/
theorem store_step {Q : α → sProp 𝕄} {R : sProp 𝕄} (c : Dev nD) (k : Fin 4) {s s' : ℕ} (hs : s = 8 * k.val) (hs' : s' = 8 * k.val + 8) {w : Vec F S8x16x512 .bf16} (hw : w = chunkV m ρ c k)
    {hx : (ybM.access (chunkR k)).Stores Finset.univ} {hm : Finset.univ = Finset.univ ∨ ∀ a, (chunkR k).stride a = 1}
    {kt : PUnit → Prog (TpuEff nD τ sig (Elt F) Λ₀ .tc) α}
    (H : iprop(BSt m ρ K c s s' ∗ R) ⊢ WP c (kt ⟨⟩) Q) :
    iprop(BSt m ρ K c s s ∗ chunk (F := F) c k ∗ R) ⊢ WP c (.op (.store ybM (chunkR k) w Finset.univ hx hm) kt) Q := by
  subst hs hs'
  refine BIBase.Entails.trans (Q := iprop(chunk (F := F) c k ∗ (BSt m ρ K c (8 * k.val) (8 * k.val) ∗ R))) sep_left_comm.1
    (chunk_store m ρ c k hw (BIBase.Entails.trans ?_ H))
  unfold BSt sdFam
  rw [btw_empty, bigSep_empty]
  iintro ⟨Hy, ⟨HP, Hal, HO, Ht, Hc, -⟩, HR⟩
  isplitr [HR]
  · isplitl [HP]; · iexact HP
    isplitl [Hal]; · iexact Hal
    isplitl [HO]; · iexact HO
    isplitl [Ht]; · iexact Ht
    isplitl [Hc]; · iexact Hc
    iexact Hy
  iexact HR

/-- Slot 0 of the products is read. -/
theorem own_load {Q : α → sProp 𝕄} {R : sProp 𝕄} (c : Dev nD) {hl : ybM.view.LoadsAt (slotR 0).toLoadRect}
    {kt : Vec F S1x16x512 .bf16 → Prog (TpuEff nD τ sig (Elt F) Λ₀ .tc) α}
    (H : iprop(ybPts c 0 (YB m ρ c) ∗ R) ⊢ WP c (kt (own0 m ρ c)) Q) :
    iprop(ybPts c 0 (YB m ρ c) ∗ R) ⊢ WP c (.op (.load ybM (slotR 0).toLoadRect hl) kt) Q := by
  unfold ybPts at H ⊢
  iintro ⟨Hb, HR⟩
  iapply (wp_load 𝒱₀ (c : Thread nD τ) none Set.univ (m := ybM) (r := (slotR 0).toLoadRect) (hl := hl) (k := kt) (S := (slotM ybM 0).view.set) (q := fullShare) (f := YB m ρ c)
    (by rw [set_yb, on_whole])) $$ Hb
  iintro Hb
  iapply H
  isplitl [Hb]; · iexact Hb
  iexact HR

/-! ### One part of the program after another -/

variable {β : Type}

/-- The postcondition of a part whose result is `a` and which leaves `B`. -/
theorem seq {Q : β → sProp 𝕄} {A B : sProp 𝕄} {c : Dev nD} {p : Prog (TpuEff nD τ sig (Elt F) Λ₀ .tc) α} {f : α → Prog (TpuEff nD τ sig (Elt F) Λ₀ .tc) β} {a : α}
    (h1 : A ⊢ WP c p fun v => iprop(⌜v = a⌝ ∗ B)) (h2 : B ⊢ WP c (f a) Q) : A ⊢ WP c (p >>= f) Q := by
  rw [WP, wp_bind]
  refine h1.trans (wp_mono _ _ _ fun v => ?_)
  iintro ⟨%hv, HB⟩
  subst hv
  iapply h2; iexact HB

theorem seq_any {Q : β → sProp 𝕄} {A B : sProp 𝕄} {c : Dev nD} {p : Prog (TpuEff nD τ sig (Elt F) Λ₀ .tc) α} {f : α → Prog (TpuEff nD τ sig (Elt F) Λ₀ .tc) β}
    (h1 : A ⊢ WP c p fun _ => B) (h2 : ∀ v, B ⊢ WP c (f v) Q) : A ⊢ WP c (p >>= f) Q := by
  rw [WP, wp_bind]
  exact h1.trans (wp_mono _ _ _ h2)

theorem done_any {B : sProp 𝕄} {c : Dev nD} {a : α} : B ⊢ WP (F := F) c (.ret a) fun _ => B := by
  rw [WP, wp_ret]; exact fupd_intro
theorem done {B : sProp 𝕄} {c : Dev nD} {a : α} : B ⊢ WP (F := F) c (.ret a) fun v => iprop(⌜v = a⌝ ∗ B) := by
  rw [WP, wp_ret]
  refine BIBase.Entails.trans ?_ fupd_intro
  iintro H; isplitr
  · ipureintro; rfl
  iexact H

end Cert.Exch
-- ==== Proof.Body.lean ====
/-
# The body of the kernel on one device

From what the launch hands device `c` to what it leaves, part of the program after part, each effect by its step.
-/
module

public import proofs.«01_k».proof.Proof.Steps

@[expose] public section

set_option maxRecDepth 100000

noncomputable section

namespace Cert.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Kd → ℕ)

/-! ## Taking one thing out of the state and putting it back -/

theorem in_head {h B : sProp 𝕄} : iprop(h ∗ B) ⊢ iprop(h ∗ (h -∗ h ∗ B)) := by
  iintro ⟨H, HB⟩
  isplitl [H]; · iexact H
  iintro H
  isplitl [H]; · iexact H
  iexact HB
theorem in_last {h : sProp 𝕄} : h ⊢ iprop(h ∗ (h -∗ h)) := by
  iintro H
  isplitl [H]; · iexact H
  iintro H; iexact H
theorem in_tail {h A B : sProp 𝕄} (hB : B ⊢ iprop(h ∗ (h -∗ B))) : iprop(A ∗ B) ⊢ iprop(h ∗ (h -∗ A ∗ B)) := by
  iintro ⟨HA, HB⟩
  ihave HB := hB $$ HB
  icases HB with ⟨H, HB⟩
  isplitl [H]; · iexact H
  iintro H
  isplitl [HA]; · iexact HA
  iapply HB; iexact H

variable {α : Type}

theorem load_in {Q : α → sProp 𝕄} {A : sProp 𝕄} (c : Dev nD) {S : Shape} {e : EltTy} (M : Memref sig .tc .vmem S e) (f : M.view.ty.Contents (Elt F)) {r : LoadRect S}
    {hl : M.view.LoadsAt r} {kt : (r.shape.Idx → Elt F e) → Prog (TpuEff nD τ sig (Elt F) Λ₀ .tc) α}
    (hA : A ⊢ iprop(held c M f ∗ (held c M f -∗ A)))
    (H : A ⊢ WP c (kt (M.view.readAt (Elt F) r f)) Q) :
    A ⊢ WP c (.op (.load M r hl) kt) Q :=
  hA.trans (load_held c M f (BIBase.Entails.trans (by iintro ⟨H, HA⟩; iapply HA; iexact H) H))

theorem chunk_in {Q : α → sProp 𝕄} {A : sProp 𝕄} (c : Dev nD) (k : Fin 4) {hl : ybM.view.LoadsAt (chunkR k).toLoadRect}
    {kt : Vec F S8x16x512 .bf16 → Prog (TpuEff nD τ sig (Elt F) Λ₀ .tc) α}
    (hA : A ⊢ iprop(chunk c k ∗ (chunk c k -∗ A)))
    (H : ∀ v, A ⊢ WP c (kt v) Q) :
    A ⊢ WP c (.op (.load ybM (chunkR k).toLoadRect hl) kt) Q :=
  hA.trans (chunk_load c k fun v => (BIBase.Entails.trans (by iintro ⟨H, HA⟩; iapply HA; iexact H) (H v)))

theorem own_in {Q : α → sProp 𝕄} {A : sProp 𝕄} (c : Dev nD) {hl : ybM.view.LoadsAt (slotR 0).toLoadRect}
    {kt : Vec F S1x16x512 .bf16 → Prog (TpuEff nD τ sig (Elt F) Λ₀ .tc) α}
    (hA : A ⊢ iprop(ybPts c 0 (YB m ρ c) ∗ (ybPts c 0 (YB m ρ c) -∗ A)))
    (H : A ⊢ WP c (kt (own0 m ρ c)) Q) :
    A ⊢ WP c (.op (.load ybM (slotR 0).toLoadRect hl) kt) Q :=
  hA.trans (own_load m ρ c (BIBase.Entails.trans (by iintro ⟨H, HA⟩; iapply HA; iexact H) H))

theorem seq_pred {β : Type} {Q : β → sProp 𝕄} {A B : sProp 𝕄} {c : Dev nD} {p : Prog (TpuEff nD τ sig (Elt F) Λ₀ .tc) α} {f : α → Prog (TpuEff nD τ sig (Elt F) Λ₀ .tc) β} (P : α → Prop)
    (h1 : A ⊢ WP c p fun v => iprop(⌜P v⌝ ∗ B)) (h2 : ∀ v, P v → (B ⊢ WP c (f v) Q)) : A ⊢ WP c (p >>= f) Q := by
  rw [WP, wp_bind]
  refine h1.trans (wp_mono _ _ _ fun v => ?_)
  iintro ⟨%hv, HB⟩
  iapply (h2 v hv); iexact HB
theorem done_pred {B : sProp 𝕄} {c : Dev nD} {a : α} {P : α → Prop} (h : P a) : B ⊢ WP (F := F) c (.ret a) fun v => iprop(⌜P v⌝ ∗ B) := by
  rw [WP, wp_ret]
  refine BIBase.Entails.trans ?_ fupd_intro
  iintro H; isplitr
  · ipureintro; exact h
  iexact H

/-- The slot that was received last is read. -/
theorem rload_last {Q : α → sProp 𝕄} {R : sProp 𝕄} (c : Dev nD) (s : ℕ) (hs : s < 32) (h1 : 1 ≤ s) {hl : rvM.view.LoadsAt (slotR ⟨s, hs⟩).toLoadRect}
    {kt : Vec F S1x16x512 .bf16 → Prog (TpuEff nD τ sig (Elt F) Λ₀ .tc) α}
    (H : iprop(RSt m ρ K c (s + 1) ∗ R) ⊢ WP c (kt (rcv m ρ c ⟨s, hs⟩)) Q) :
    iprop(RSt m ρ K c (s + 1) ∗ R) ⊢ WP c (.op (.load rvM (slotR ⟨s, hs⟩).toLoadRect hl) kt) Q :=
  rload_step m ρ K c (s + 1) ⟨s, hs⟩ (by rw [don_step hs h1]; exact Finset.mem_insert_self _ _) H

/-! ## The effect at the head of a program -/

theorem is_signal {Q : α → sProp 𝕄} {A : sProp 𝕄} {c : Dev nD} {t sem n} {kt : PUnit → Prog (TpuEff nD τ sig (Elt F) Λ₀ .tc) α}
    (h : A ⊢ WP c (.op (.semSignal t sem n) kt) Q) : A ⊢ WP c (.op (.semSignal t sem n) kt) Q := h
theorem is_wait {Q : α → sProp 𝕄} {A : sProp 𝕄} {c : Dev nD} {sem n} {kt : PUnit → Prog (TpuEff nD τ sig (Elt F) Λ₀ .tc) α}
    (h : A ⊢ WP c (.op (.semWait sem n) kt) Q) : A ⊢ WP c (.op (.semWait sem n) kt) Q := h
theorem is_dma {Q : α → sProp 𝕄} {A : sProp 𝕄} {c : Dev nD} {S : Shape} {e : EltTy} {s : Memref sig .tc .vmem S e} {t : DmaTarget nD τ sig (c : Thread nD τ).2 .vmem S e} {sem h1 h2 h3} {kt : PUnit → Prog (TpuEff nD τ sig (Elt F) Λ₀ .tc) α}
    (h : A ⊢ WP c (.op (.enqueueDma s t sem h1 h2 h3) kt) Q) : A ⊢ WP c (.op (.enqueueDma s t sem h1 h2 h3) kt) Q := h
theorem is_dmaWait {Q : α → sProp 𝕄} {A : sProp 𝕄} {c : Dev nD} {S : Shape} {e : EltTy} {s d : Memref sig .tc .vmem S e} {sem h1 h2} {kt : PUnit → Prog (TpuEff nD τ sig (Elt F) Λ₀ .tc) α}
    (h : A ⊢ WP c (.op (.waitDma2 sem s d h1 h2) kt) Q) : A ⊢ WP c (.op (.waitDma2 sem s d h1 h2) kt) Q := h
theorem is_load {Q : α → sProp 𝕄} {A : sProp 𝕄} {c : Dev nD} {S : Shape} {e : EltTy} {M : Memref sig .tc .vmem S e} {r hl} {kt : (r.shape.Idx → Elt F e) → Prog (TpuEff nD τ sig (Elt F) Λ₀ .tc) α}
    (h : A ⊢ WP c (.op (.load M r hl) kt) Q) : A ⊢ WP c (.op (.load M r hl) kt) Q := h
theorem is_ret {Q : α → sProp 𝕄} {A : sProp 𝕄} {c : Dev nD} {a : α} (h : A ⊢ WP (F := F) c (.ret a) Q) : A ⊢ WP (F := F) c (.ret a) Q := h

/-! ## What is held besides the states -/

/-- The cells closed at the start, and slot 0 of the receive buffer, which nobody uses. -/
def Z0 (c : Dev nD) : sProp 𝕄 :=
  iprop(semVal (barC c) 0 ∗ semVal (alC c 0) 0 ∗ semVal (sdC c 0) 0 ∗ semVal (rcC c 0) 0 ∗ ∃ f, rvPts (F := F) c 0 f)
def sdAt (c : Dev nD) : sProp 𝕄 := bigSep (rem 1) fun j => (atPos ER (sdC c j) 0 ∅ 0 : sProp 𝕄)
def rcAll (c : Dev nD) : sProp 𝕄 := bigSep (rem 1) fun j => (iprop(cred (tallyAt (rcC c j) () N) ∗ atPos ER (rcC c j) 0 ∅ 0) : sProp 𝕄)
def toks (c : Dev nD) : sProp 𝕄 := bigSep (rem 1) fun j => (iprop(dutyTok ER (rcC (up c j) j) 0 () ∗ dutyTok ER (sdC c j) 0 ()) : sProp 𝕄)
def alDone (c : Dev nD) : sProp 𝕄 := bigSep (rem 1) fun j => (semVal (alC c j) 0 : sProp 𝕄)

/-- What device `c` starts with once its barrier is behind it: the slots' duties and positions, -/
def enterSt (c : Dev nD) : sProp 𝕄 :=
  iprop(ASt m ρ K c 1 ∗ chunk c 0 ∗ chunk c 1 ∗ chunk c 2 ∗ chunk c 3
    ∗ (∃ f, held c mM f) ∗ held c xM (xstg m ρ c) ∗ held c rM (rstg m ρ c) ∗ held c wM (wstg m ρ c) ∗ (∃ f, held c oM f)
    ∗ alFam c 1 ∗ toks c ∗ sdAt c ∗ rcAll c ∗ Z0 c)

/-- and what it ends with. -/
def leaveSt (c : Dev nD) : sProp 𝕄 :=
  iprop(DSt m ρ K c 32 ∗ held c oM (outV m ρ c) ∗ ybPts c 0 (YB m ρ c) ∗ held c mM (MX m ρ c) ∗ held c xM (xstg m ρ c) ∗ held c rM (rstg m ρ c) ∗ held c wM (wstg m ρ c)
    ∗ alDone c ∗ (bigSep (don 32) fun j => iprop(semVal (rcC c j) 0 ∗ rvPts c j (RV m ρ c))) ∗ Z0 c)

theorem hz2 : (![0, 0] : Fin 2 → Nat) = fun _ => 0 := funext fun a => by fin_cases a <;> rfl

theorem read_r (f : (cc0_stg1_0 : Ref sig .tc).ty.Contents (Elt F)) :
    rM.view.readAt (Elt F) (Rect.unit (s := S512x1) ![0, 0] S512x1.size inb_S512x1_S512x1_0_0).toLoadRect f = f :=
  Memref.readAt_unit_zero (Elt F) cc0_stg1_0 hz2 _ f
theorem read_x (f : (cc0_stg0_0 : Ref sig .tc).ty.Contents (Elt F)) :
    xM.view.readAt (Elt F) (Rect.unit (s := S512x256) ![0, 0] S512x256.size inb_S512x256_S512x256_0_0).toLoadRect f = f :=
  Memref.readAt_unit_zero (Elt F) cc0_stg0_0 hz2 _ f
theorem write_m (f w : (cc0_scratch0 : Ref sig .tc).ty.Contents (Elt F)) :
    (mM.access (Rect.unit (s := S1024x512) ![0, 0] S1024x512.size inb_S1024x512_S1024x512_0_0) : View sig .tc _ _ _).write (Elt F) f w Finset.univ = w :=
  Memref.write_access_unit_zero_univ (Elt F) cc0_scratch0 hz2 _ f w
theorem write_o (f w : (cc0_stg3_0 : Ref sig .tc).ty.Contents (Elt F)) :
    (oM.access (Rect.unit (s := S16x512) ![0, 0] S16x512.size inb_S16x512_S16x512_0_0) : View sig .tc _ _ _).write (Elt F) f w Finset.univ = w :=
  Memref.write_access_unit_zero_univ (Elt F) cc0_stg3_0 hz2 _ f w

/-- What device `c` starts with: the above and its barrier's. -/
def preSt (c : Dev nD) : sProp 𝕄 :=
  iprop(pers m ρ K ∗ (∃ W, owes (c : Thread nD τ) (O₀ c) W) ∗ (cred (tallyAt (barC c) () 1) ∗ atPos ER (barC c) 0 ∅ 0 ∗ dutyTok ER (barC c) 0 ())
    ∗ (bigSep (rem 1) fun j => iprop(dutyTok ER (alC (up c j) (opp j)) 0 () ∗ ∃ f, rvPts (F := F) c (opp j) f))
    ∗ (chunk c 0 ∗ chunk c 1 ∗ chunk c 2 ∗ chunk c 3
    ∗ (∃ f, held c mM f) ∗ held c xM (xstg m ρ c) ∗ held c rM (rstg m ρ c) ∗ held c wM (wstg m ρ c) ∗ (∃ f, held c oM f)
    ∗ alFam c 1 ∗ toks c ∗ sdAt c ∗ rcAll c)
    ∗ semVal (alC c 0) 0 ∗ semVal (sdC c 0) 0 ∗ semVal (rcC c 0) 0 ∗ ∃ f, rvPts (F := F) c 0 f)

/-- The barrier: a device signals its own and waits for that. -/
theorem barrier_step {Q : α → sProp 𝕄} (c : Dev nD) {kt : PUnit → Prog (TpuEff nD τ sig (Elt F) Λ₀ .tc) α}
    (H : enterSt m ρ K c ⊢ WP c (kt ⟨⟩) Q) :
    preSt m ρ K c ⊢ WP c (.op (.semSignal (c : Thread nD τ) barS (1#32 : BitVec 32).toInt) fun _ => .op (.semWait barS (1#32 : BitVec 32).toInt) kt) Q := by
  unfold preSt
  iintro ⟨#HP, HO, ⟨Hc, Hat, Ht⟩, Hal, HR, Hz⟩
  iapply (signal_one m ρ K c c c none rfl rfl barS rfl rfl (O' := O₀ c) (Orc c 1 + Oal c 1) rfl) $$ [HO Ht]
  · isplitr; · iexact HP
    isplitl [HO]; · iexact HO
    isplitl [Ht]; · iexact Ht
    iapply (show (iprop(emp) : sProp 𝕄) ⊢ payK m ρ c none from Entails.of_eq rfl); iempintro
  iintro HO
  iapply (wait_close m ρ K c none rfl _ (wpE_semWait_eq 𝒱₀ (c : Thread nD τ) none Set.univ) (kt := kt) (Orc c 1 + Oal c 1) (fun g u hg => O1_pos hg)) $$ [Hc Hat HO]
  · isplitr; · iexact HP
    isplitl [Hc]; · iexact Hc
    isplitl [Hat]; · iexact Hat
    iexact HO
  iintro ⟨HO, Hv, -⟩
  iapply H
  unfold enterSt ASt Z0
  isplitl [HO Hal]
  · isplitr; · iexact HP
    isplitl [HO]; · iexact HO
    iexact Hal
  icases HR with ⟨H0, H1, H2, H3, H4, H5, H6, H7, H8, H9, H10, H11, H12⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [Hv]; · iexact Hv
  iexact Hz

/-! ## From one state to the next -/

def sdAll (c : Dev nD) : sProp 𝕄 := bigSep (rem 1) fun j => (iprop(cred (tallyAt (sdC c j) () N) ∗ atPos ER (sdC c j) 0 ∅ 0) : sProp 𝕄)

theorem mx_first {a b0 b1 b2 b3 M R : sProp 𝕄} : iprop(a ∗ b0 ∗ b1 ∗ b2 ∗ b3 ∗ M ∗ R) ⊢ iprop(M ∗ a ∗ b0 ∗ b1 ∗ b2 ∗ b3 ∗ R) := by
  iintro ⟨H0, H1, H2, H3, H4, H5, H6⟩
  isplitl [H5]; · iexact H5
  isplitl [H0]; · iexact H0
  isplitl [H1]; · iexact H1
  isplitl [H2]; · iexact H2
  isplitl [H3]; · iexact H3
  isplitl [H4]; · iexact H4
  iexact H6

theorem ex_first {β : Type} {Φ : β → sProp 𝕄} {R G : sProp 𝕄} (H : ∀ f, iprop(Φ f ∗ R) ⊢ G) : iprop((∃ f, Φ f) ∗ R) ⊢ G := by
  iintro ⟨⟨%f, Hf⟩, HR⟩
  iapply (H f)
  isplitl [Hf]; · iexact Hf
  iexact HR

theorem chunk_first {M a b R : sProp 𝕄} : iprop(M ∗ a ∗ b ∗ R) ⊢ iprop(b ∗ M ∗ a ∗ R) := by
  iintro ⟨H0, H1, H2, H3⟩
  isplitl [H2]; · iexact H2
  isplitl [H0]; · iexact H0
  isplitl [H1]; · iexact H1
  iexact H3

/-- The first chunk stored: the transfers begin. -/
theorem begin_send {a1 a2 a3 x r w o s t z M : sProp 𝕄} (c : Dev nD) :
    iprop((bigSep (btw (8 * (0 : Fin 4).val) (8 * (0 : Fin 4).val + 8)) fun j => ybPts c j (YB m ρ c)) ∗ M ∗ ASt m ρ K c 32 ∗ a1 ∗ a2 ∗ a3 ∗ x ∗ r ∗ w ∗ o ∗ alFam c 1 ∗ toks c ∗ s ∗ t ∗ z)
      ⊢ iprop(BSt m ρ K c 1 8 ∗ a1 ∗ a2 ∗ a3 ∗ M ∗ x ∗ r ∗ w ∗ o ∗ ybPts c 0 (YB m ρ c) ∗ s ∗ t ∗ z) := by
  unfold ASt BSt sdFam toks
  rw [show 8 * (0 : Fin 4).val = 0 from rfl, show 0 + 8 = 8 from rfl, fam_btw (s := 0) (h := 8) (by decide) (by decide), Oal_end, add_zero, don_one, rem_end, bigSep_empty, bigSep_empty]
  iintro ⟨⟨Hy0, Hy⟩, HM, ⟨HP, HO, -⟩, H1, H2, H3, Hx, Hr, Hw, Ho, Hal, Ht, Hs, Htt, Hz⟩
  isplitl [HP HO Hal Ht Hy]
  · isplitl [HP]; · iexact HP
    isplitl [Hal]; · iexact Hal
    isplitl [HO]; · iexact HO
    isplitl [Ht]; · iexact Ht
    isplitr; · iempintro
    iexact Hy
  isplitl [H1]; · iexact H1
  isplitl [H2]; · iexact H2
  isplitl [H3]; · iexact H3
  isplitl [HM]; · iexact HM
  isplitl [Hx]; · iexact Hx
  isplitl [Hr]; · iexact Hr
  isplitl [Hw]; · iexact Hw
  isplitl [Ho]; · iexact Ho
  isplitl [Hy0]; · iexact Hy0
  isplitl [Hs]; · iexact Hs
  isplitl [Htt]; · iexact Htt
  iexact Hz

/-- All sent: receiving begins. -/
theorem begin_recv {M x r w o y z : sProp 𝕄} (c : Dev nD) :
    iprop(BSt m ρ K c 32 32 ∗ M ∗ x ∗ r ∗ w ∗ o ∗ y ∗ sdAt c ∗ rcAll c ∗ z)
      ⊢ iprop(RSt m ρ K c 1 ∗ o ∗ y ∗ M ∗ x ∗ r ∗ w ∗ alDone c ∗ sdAll c ∗ z) := by
  unfold BSt RSt alFam sdFam rcAll alDone sdAll sdAt
  rw [Orc_end, don_end, don_one, rem_end, bigSep_empty, bigSep_empty, bigSep_empty, btw_empty, bigSep_empty]
  iintro ⟨⟨HP, ⟨-, Hal⟩, HO, -, Hc, -⟩, HM, Hx, Hr, Hw, Ho, Hy, Hs, Ht, Hz⟩
  isplitl [HP HO Ht]
  · isplitl [HP]; · iexact HP
    isplitl [HO]; · iexact HO
    isplitl [Ht]; · iexact Ht
    iempintro
  isplitl [Ho]; · iexact Ho
  isplitl [Hy]; · iexact Hy
  isplitl [HM]; · iexact HM
  isplitl [Hx]; · iexact Hx
  isplitl [Hr]; · iexact Hr
  isplitl [Hw]; · iexact Hw
  isplitl [Hal]; · iexact Hal
  isplitl [Hc Hs]
  · iapply (Entails.of_eq (bigSep_sep' ..).symm)
    isplitl [Hc]; · iexact Hc
    iexact Hs
  iexact Hz

/-- All received and the result stored: waiting for one's own transfers begins. -/
theorem begin_sent {o y M x r w a z : sProp 𝕄} (c : Dev nD) :
    iprop(o ∗ RSt m ρ K c 32 ∗ y ∗ M ∗ x ∗ r ∗ w ∗ a ∗ sdAll c ∗ z)
      ⊢ iprop(DSt m ρ K c 1 ∗ o ∗ y ∗ M ∗ x ∗ r ∗ w ∗ a ∗ (bigSep (don 32) fun j => iprop(semVal (rcC c j) 0 ∗ rvPts c j (RV m ρ c))) ∗ z) := by
  unfold RSt DSt sdAll
  rw [don_one, rem_end, bigSep_empty, bigSep_empty]
  iintro ⟨Ho, ⟨HP, HO, -, Hd⟩, Hy, HM, Hx, Hr, Hw, Ha, Hs, Hz⟩
  isplitl [HP HO Hs]
  · isplitl [HP]; · iexact HP
    isplitl [HO]; · iexact HO
    isplitl [Hs]; · iexact Hs
    iempintro
  isplitl [Ho]; · iexact Ho
  isplitl [Hy]; · iexact Hy
  isplitl [HM]; · iexact HM
  isplitl [Hx]; · iexact Hx
  isplitl [Hr]; · iexact Hr
  isplitl [Hw]; · iexact Hw
  isplitl [Ha]; · iexact Ha
  isplitl [Hd]; · iexact Hd
  iexact Hz

set_option maxHeartbeats 1000000 in
theorem sound_body (c : Dev nD) (Q : PUnit → sProp 𝕄) (hQ : leaveSt m ρ K c ⊢ Q ⟨⟩) :
    preSt m ρ K c ⊢ WP c (cc0_body xM (Memref.isWhole_whole _) rM (Memref.isWhole_whole _) wM (Memref.isWhole_whole _) oM (Memref.isWhole_whole _)
      mM (Memref.isWhole_whole _) ybM (Memref.isWhole_whole _) rvM (Memref.isWhole_whole _) cc0_scratch3 cc0_scratch4 cc0_scratch5) Q := by
  rw [cc0_body_eq_skeleton]
  unfold cc0_body_skel
  apply seq_any (B := iprop(DSt m ρ K c 29 ∗ held c oM (outV m ρ c) ∗ ybPts c 0 (YB m ρ c) ∗ held c mM (MX m ρ c) ∗ held c xM (xstg m ρ c) ∗ held c rM (rstg m ρ c) ∗ held c wM (wstg m ρ c)
    ∗ alDone c ∗ (bigSep (don 32) fun j => iprop(semVal (rcC c j) 0 ∗ rvPts c j (RV m ρ c))) ∗ Z0 c))
  rotate_left
  · intro _
    simp only [semWaitWord, Prog.lift, Prog.bind_op, Prog.bind_ret, Prog.pure_eq_ret]
    repeat ((with_reducible refine is_dmaWait ?_); refine sent_step m ρ K c _ (by decide) (by decide) ?_)
    rw [WP, wp_ret]
    exact BIBase.Entails.trans hQ fupd_intro
  rw [k0_part48_eq_skeleton]
  unfold k0_part48_skel
  -- the barrier and the signals
  apply seq
  · rw [k0_part1_eq_skeleton]
    simp only [k0_part1_skel, semSignalWord, semWaitWord, semSignalHereWord, Prog.lift, Prog.bind_op, Prog.bind_ret, Prog.pure_eq_ret, wp_deviceId]
    refine barrier_step m ρ K c ?_
    unfold enterSt
    repeat ((with_reducible refine is_signal ?_); refine sig_step m ρ K c _ _ (by decide) (by decide) _ (Fin.ext (by simp only [k0_dev1_eq, k0_dev2_eq, k0_dev3_eq, k0_dev4_eq, k0_dev5_eq, k0_dev6_eq, k0_dev7_eq, k0_dev8_eq, k0_dev9_eq, k0_dev10_eq, k0_dev11_eq, k0_dev12_eq, k0_dev13_eq, k0_dev14_eq, k0_dev15_eq, k0_dev16_eq, k0_dev17_eq, k0_dev18_eq, k0_dev19_eq, k0_dev20_eq, k0_dev21_eq, k0_dev22_eq, k0_dev23_eq, k0_dev24_eq, k0_dev25_eq, k0_dev26_eq, k0_dev27_eq, k0_dev28_eq, k0_dev29_eq, k0_dev30_eq, k0_dev31_eq, up])) rfl ?_)
    ((with_reducible refine is_ret ?_); exact done)
  iterate 5
    apply seq
    · simp only [k0_part2_eq_skeleton, k0_part2_skel, k0_part3_eq_skeleton, k0_part3_skel, k0_part4_eq_skeleton, k0_part4_skel, k0_part5_eq_skeleton, k0_part5_skel, k0_part6_eq_skeleton, k0_part6_skel, semSignalWord, semWaitWord, Prog.lift, Prog.bind_op, Prog.bind_ret, Prog.pure_eq_ret]
      repeat ((with_reducible refine is_signal ?_); refine sig_step m ρ K c _ _ (by decide) (by decide) _ (Fin.ext (by simp only [k0_dev1_eq, k0_dev2_eq, k0_dev3_eq, k0_dev4_eq, k0_dev5_eq, k0_dev6_eq, k0_dev7_eq, k0_dev8_eq, k0_dev9_eq, k0_dev10_eq, k0_dev11_eq, k0_dev12_eq, k0_dev13_eq, k0_dev14_eq, k0_dev15_eq, k0_dev16_eq, k0_dev17_eq, k0_dev18_eq, k0_dev19_eq, k0_dev20_eq, k0_dev21_eq, k0_dev22_eq, k0_dev23_eq, k0_dev24_eq, k0_dev25_eq, k0_dev26_eq, k0_dev27_eq, k0_dev28_eq, k0_dev29_eq, k0_dev30_eq, k0_dev31_eq, up])) rfl ?_)
      ((with_reducible refine is_ret ?_); exact done)
  -- the last signals and the loads
  apply seq
  · simp only [k0_part7_eq_skeleton, k0_part7_skel, semSignalWord, semWaitWord, Prog.lift, Prog.bind_op, Prog.bind_ret, Prog.pure_eq_ret]
    repeat ((with_reducible refine is_signal ?_); refine sig_step m ρ K c _ _ (by decide) (by decide) _ (Fin.ext (by simp only [k0_dev1_eq, k0_dev2_eq, k0_dev3_eq, k0_dev4_eq, k0_dev5_eq, k0_dev6_eq, k0_dev7_eq, k0_dev8_eq, k0_dev9_eq, k0_dev10_eq, k0_dev11_eq, k0_dev12_eq, k0_dev13_eq, k0_dev14_eq, k0_dev15_eq, k0_dev16_eq, k0_dev17_eq, k0_dev18_eq, k0_dev19_eq, k0_dev20_eq, k0_dev21_eq, k0_dev22_eq, k0_dev23_eq, k0_dev24_eq, k0_dev25_eq, k0_dev26_eq, k0_dev27_eq, k0_dev28_eq, k0_dev29_eq, k0_dev30_eq, k0_dev31_eq, up])) rfl ?_)
    refine load_in c rM (rstg m ρ c) (by repeat (first | exact in_head | refine in_tail ?_)) ?_
    rw [read_r]
    ((with_reducible refine is_ret ?_); exact done)
  apply seq
  · simp only [k0_part8_eq_skeleton, k0_part8_skel, semSignalWord, semWaitWord, Prog.lift, Prog.bind_op, Prog.bind_ret, Prog.pure_eq_ret]
    refine load_in c xM (xstg m ρ c) (by repeat (first | exact in_head | refine in_tail ?_)) ?_
    rw [read_x]
    ((with_reducible refine is_ret ?_); exact done)
  -- the masked tokens and the weights
  refine seq_pred (B := iprop(held c mM (MX m ρ c) ∗ ASt m ρ K c 32 ∗ chunk c 0 ∗ chunk c 1 ∗ chunk c 2 ∗ chunk c 3
      ∗ held c xM (xstg m ρ c) ∗ held c rM (rstg m ρ c) ∗ held c wM (wstg m ρ c) ∗ (∃ f, held c oM f)
      ∗ alFam c 1 ∗ toks c ∗ sdAt c ∗ rcAll c ∗ Z0 c))
    (fun v => v.1 = k0_pay5 (w0V m ρ c) (w1V m ρ c) ∧ v.2.1 = k0_pay6 (w0V m ρ c) (w1V m ρ c) (mxV m ρ c 0)) ?_ ?_
  · simp only [k0_part9_eq_skeleton, k0_part9_skel, Prog.lift, Prog.bind_op, Prog.bind_ret, Prog.pure_eq_ret]
    refine mx_first.trans (ex_first fun f => load_held c mM f ?_)
    refine store_held c mM f (MX m ρ c) (write_m _ _) ?_
    refine load_in c wM (wstg m ρ c) (by repeat (first | exact in_head | refine in_tail ?_)) ?_
    refine load_in c wM (wstg m ρ c) (by repeat (first | exact in_head | refine in_tail ?_)) ?_
    refine load_in c mM (MX m ρ c) (by repeat (first | exact in_head | refine in_tail ?_)) ?_
    refine chunk_in c 0 (by repeat (first | exact in_head | refine in_tail ?_)) fun v => ?_
    exact done_pred ⟨rfl, rfl⟩
  rintro ⟨v271, v278, v279⟩ ⟨h1, h2⟩
  dsimp only at h1 h2
  subst h1 h2
  -- the first chunk is stored, and the transfers begin
  apply seq
  · simp only [k0_part10_eq_skeleton, k0_part10_skel, semWaitWord, Prog.lift, Prog.bind_op, Prog.bind_ret, Prog.pure_eq_ret]
    refine chunk_first.trans ?_
    refine chunk_store m ρ c 0 rfl ?_
    refine (begin_send m ρ K c).trans ?_
    repeat (first
      | ((with_reducible refine is_wait ?_); refine alive_step m ρ K c _ _ (by decide) (by decide) _ rfl ?_)
      | ((with_reducible refine is_dma ?_); refine send_step m ρ K c _ _ _ (by decide) (by decide) (by decide) (by decide) (Fin.ext (by simp only [k0_dev32_eq, k0_dev33_eq, k0_dev34_eq, k0_dev35_eq, k0_dev36_eq, k0_dev37_eq, k0_dev38_eq, k0_dev39_eq, k0_dev40_eq, k0_dev41_eq, k0_dev42_eq, k0_dev43_eq, k0_dev44_eq, k0_dev45_eq, k0_dev46_eq, k0_dev47_eq, k0_dev48_eq, k0_dev49_eq, k0_dev50_eq, k0_dev51_eq, k0_dev52_eq, k0_dev53_eq, k0_dev54_eq, k0_dev55_eq, k0_dev56_eq, k0_dev57_eq, k0_dev58_eq, k0_dev59_eq, k0_dev60_eq, k0_dev61_eq, k0_dev62_eq, up])) ?_))
    ((with_reducible refine is_ret ?_); exact done)
  iterate 2
    apply seq
    · simp only [k0_part11_eq_skeleton, k0_part11_skel, k0_part12_eq_skeleton, k0_part12_skel, semWaitWord, Prog.lift, Prog.bind_op, Prog.bind_ret, Prog.pure_eq_ret]
      repeat (first
        | ((with_reducible refine is_wait ?_); refine alive_step m ρ K c _ _ (by decide) (by decide) _ rfl ?_)
        | ((with_reducible refine is_dma ?_); refine send_step m ρ K c _ _ _ (by decide) (by decide) (by decide) (by decide) (Fin.ext (by simp only [k0_dev32_eq, k0_dev33_eq, k0_dev34_eq, k0_dev35_eq, k0_dev36_eq, k0_dev37_eq, k0_dev38_eq, k0_dev39_eq, k0_dev40_eq, k0_dev41_eq, k0_dev42_eq, k0_dev43_eq, k0_dev44_eq, k0_dev45_eq, k0_dev46_eq, k0_dev47_eq, k0_dev48_eq, k0_dev49_eq, k0_dev50_eq, k0_dev51_eq, k0_dev52_eq, k0_dev53_eq, k0_dev54_eq, k0_dev55_eq, k0_dev56_eq, k0_dev57_eq, k0_dev58_eq, k0_dev59_eq, k0_dev60_eq, k0_dev61_eq, k0_dev62_eq, up])) ?_))
      ((with_reducible refine is_ret ?_); exact done)
  apply seq
  · simp only [k0_part13_eq_skeleton, k0_part13_skel, semWaitWord, Prog.lift, Prog.bind_op, Prog.bind_ret, Prog.pure_eq_ret]
    repeat (first
      | ((with_reducible refine is_wait ?_); refine alive_step m ρ K c _ _ (by decide) (by decide) _ rfl ?_)
      | ((with_reducible refine is_dma ?_); refine send_step m ρ K c _ _ _ (by decide) (by decide) (by decide) (by decide) (Fin.ext (by simp only [k0_dev32_eq, k0_dev33_eq, k0_dev34_eq, k0_dev35_eq, k0_dev36_eq, k0_dev37_eq, k0_dev38_eq, k0_dev39_eq, k0_dev40_eq, k0_dev41_eq, k0_dev42_eq, k0_dev43_eq, k0_dev44_eq, k0_dev45_eq, k0_dev46_eq, k0_dev47_eq, k0_dev48_eq, k0_dev49_eq, k0_dev50_eq, k0_dev51_eq, k0_dev52_eq, k0_dev53_eq, k0_dev54_eq, k0_dev55_eq, k0_dev56_eq, k0_dev57_eq, k0_dev58_eq, k0_dev59_eq, k0_dev60_eq, k0_dev61_eq, k0_dev62_eq, up])) ?_))
    refine load_in c mM (MX m ρ c) (by repeat (first | exact in_head | refine in_tail ?_)) ?_
    refine chunk_in c 1 (by repeat (first | exact in_head | refine in_tail ?_)) fun _ => ?_
    refine store_step m ρ K c 1 (s := 8) (s' := 16) rfl rfl rfl ?_
    repeat (first
      | ((with_reducible refine is_wait ?_); refine alive_step m ρ K c _ _ (by decide) (by decide) _ rfl ?_)
      | ((with_reducible refine is_dma ?_); refine send_step m ρ K c _ _ _ (by decide) (by decide) (by decide) (by decide) (Fin.ext (by simp only [k0_dev32_eq, k0_dev33_eq, k0_dev34_eq, k0_dev35_eq, k0_dev36_eq, k0_dev37_eq, k0_dev38_eq, k0_dev39_eq, k0_dev40_eq, k0_dev41_eq, k0_dev42_eq, k0_dev43_eq, k0_dev44_eq, k0_dev45_eq, k0_dev46_eq, k0_dev47_eq, k0_dev48_eq, k0_dev49_eq, k0_dev50_eq, k0_dev51_eq, k0_dev52_eq, k0_dev53_eq, k0_dev54_eq, k0_dev55_eq, k0_dev56_eq, k0_dev57_eq, k0_dev58_eq, k0_dev59_eq, k0_dev60_eq, k0_dev61_eq, k0_dev62_eq, up])) ?_))
    ((with_reducible refine is_ret ?_); exact done)
  iterate 4
    apply seq
    · simp only [k0_part14_eq_skeleton, k0_part14_skel, k0_part15_eq_skeleton, k0_part15_skel, k0_part16_eq_skeleton, k0_part16_skel, k0_part17_eq_skeleton, k0_part17_skel, semWaitWord, Prog.lift, Prog.bind_op, Prog.bind_ret, Prog.pure_eq_ret]
      repeat (first
        | ((with_reducible refine is_wait ?_); refine alive_step m ρ K c _ _ (by decide) (by decide) _ rfl ?_)
        | ((with_reducible refine is_dma ?_); refine send_step m ρ K c _ _ _ (by decide) (by decide) (by decide) (by decide) (Fin.ext (by simp only [k0_dev32_eq, k0_dev33_eq, k0_dev34_eq, k0_dev35_eq, k0_dev36_eq, k0_dev37_eq, k0_dev38_eq, k0_dev39_eq, k0_dev40_eq, k0_dev41_eq, k0_dev42_eq, k0_dev43_eq, k0_dev44_eq, k0_dev45_eq, k0_dev46_eq, k0_dev47_eq, k0_dev48_eq, k0_dev49_eq, k0_dev50_eq, k0_dev51_eq, k0_dev52_eq, k0_dev53_eq, k0_dev54_eq, k0_dev55_eq, k0_dev56_eq, k0_dev57_eq, k0_dev58_eq, k0_dev59_eq, k0_dev60_eq, k0_dev61_eq, k0_dev62_eq, up])) ?_))
      ((with_reducible refine is_ret ?_); exact done)
  apply seq
  · simp only [k0_part18_eq_skeleton, k0_part18_skel, semWaitWord, Prog.lift, Prog.bind_op, Prog.bind_ret, Prog.pure_eq_ret]
    repeat (first
      | ((with_reducible refine is_wait ?_); refine alive_step m ρ K c _ _ (by decide) (by decide) _ rfl ?_)
      | ((with_reducible refine is_dma ?_); refine send_step m ρ K c _ _ _ (by decide) (by decide) (by decide) (by decide) (Fin.ext (by simp only [k0_dev32_eq, k0_dev33_eq, k0_dev34_eq, k0_dev35_eq, k0_dev36_eq, k0_dev37_eq, k0_dev38_eq, k0_dev39_eq, k0_dev40_eq, k0_dev41_eq, k0_dev42_eq, k0_dev43_eq, k0_dev44_eq, k0_dev45_eq, k0_dev46_eq, k0_dev47_eq, k0_dev48_eq, k0_dev49_eq, k0_dev50_eq, k0_dev51_eq, k0_dev52_eq, k0_dev53_eq, k0_dev54_eq, k0_dev55_eq, k0_dev56_eq, k0_dev57_eq, k0_dev58_eq, k0_dev59_eq, k0_dev60_eq, k0_dev61_eq, k0_dev62_eq, up])) ?_))
    refine load_in c mM (MX m ρ c) (by repeat (first | exact in_head | refine in_tail ?_)) ?_
    refine chunk_in c 2 (by repeat (first | exact in_head | refine in_tail ?_)) fun _ => ?_
    refine store_step m ρ K c 2 (s := 16) (s' := 24) rfl rfl rfl ?_
    repeat (first
      | ((with_reducible refine is_wait ?_); refine alive_step m ρ K c _ _ (by decide) (by decide) _ rfl ?_)
      | ((with_reducible refine is_dma ?_); refine send_step m ρ K c _ _ _ (by decide) (by decide) (by decide) (by decide) (Fin.ext (by simp only [k0_dev32_eq, k0_dev33_eq, k0_dev34_eq, k0_dev35_eq, k0_dev36_eq, k0_dev37_eq, k0_dev38_eq, k0_dev39_eq, k0_dev40_eq, k0_dev41_eq, k0_dev42_eq, k0_dev43_eq, k0_dev44_eq, k0_dev45_eq, k0_dev46_eq, k0_dev47_eq, k0_dev48_eq, k0_dev49_eq, k0_dev50_eq, k0_dev51_eq, k0_dev52_eq, k0_dev53_eq, k0_dev54_eq, k0_dev55_eq, k0_dev56_eq, k0_dev57_eq, k0_dev58_eq, k0_dev59_eq, k0_dev60_eq, k0_dev61_eq, k0_dev62_eq, up])) ?_))
    ((with_reducible refine is_ret ?_); exact done)
  iterate 3
    apply seq
    · simp only [k0_part19_eq_skeleton, k0_part19_skel, k0_part20_eq_skeleton, k0_part20_skel, k0_part21_eq_skeleton, k0_part21_skel, semWaitWord, Prog.lift, Prog.bind_op, Prog.bind_ret, Prog.pure_eq_ret]
      repeat (first
        | ((with_reducible refine is_wait ?_); refine alive_step m ρ K c _ _ (by decide) (by decide) _ rfl ?_)
        | ((with_reducible refine is_dma ?_); refine send_step m ρ K c _ _ _ (by decide) (by decide) (by decide) (by decide) (Fin.ext (by simp only [k0_dev32_eq, k0_dev33_eq, k0_dev34_eq, k0_dev35_eq, k0_dev36_eq, k0_dev37_eq, k0_dev38_eq, k0_dev39_eq, k0_dev40_eq, k0_dev41_eq, k0_dev42_eq, k0_dev43_eq, k0_dev44_eq, k0_dev45_eq, k0_dev46_eq, k0_dev47_eq, k0_dev48_eq, k0_dev49_eq, k0_dev50_eq, k0_dev51_eq, k0_dev52_eq, k0_dev53_eq, k0_dev54_eq, k0_dev55_eq, k0_dev56_eq, k0_dev57_eq, k0_dev58_eq, k0_dev59_eq, k0_dev60_eq, k0_dev61_eq, k0_dev62_eq, up])) ?_))
      ((with_reducible refine is_ret ?_); exact done)
  apply seq
  · simp only [k0_part22_eq_skeleton, k0_part22_skel, semWaitWord, Prog.lift, Prog.bind_op, Prog.bind_ret, Prog.pure_eq_ret]
    repeat (first
      | ((with_reducible refine is_wait ?_); refine alive_step m ρ K c _ _ (by decide) (by decide) _ rfl ?_)
      | ((with_reducible refine is_dma ?_); refine send_step m ρ K c _ _ _ (by decide) (by decide) (by decide) (by decide) (Fin.ext (by simp only [k0_dev32_eq, k0_dev33_eq, k0_dev34_eq, k0_dev35_eq, k0_dev36_eq, k0_dev37_eq, k0_dev38_eq, k0_dev39_eq, k0_dev40_eq, k0_dev41_eq, k0_dev42_eq, k0_dev43_eq, k0_dev44_eq, k0_dev45_eq, k0_dev46_eq, k0_dev47_eq, k0_dev48_eq, k0_dev49_eq, k0_dev50_eq, k0_dev51_eq, k0_dev52_eq, k0_dev53_eq, k0_dev54_eq, k0_dev55_eq, k0_dev56_eq, k0_dev57_eq, k0_dev58_eq, k0_dev59_eq, k0_dev60_eq, k0_dev61_eq, k0_dev62_eq, up])) ?_))
    refine load_in c mM (MX m ρ c) (by repeat (first | exact in_head | refine in_tail ?_)) ?_
    refine chunk_in c 3 (by repeat (first | exact in_head | refine in_tail ?_)) fun _ => ?_
    refine store_step m ρ K c 3 (s := 24) (s' := 32) rfl rfl rfl ?_
    repeat (first
      | ((with_reducible refine is_wait ?_); refine alive_step m ρ K c _ _ (by decide) (by decide) _ rfl ?_)
      | ((with_reducible refine is_dma ?_); refine send_step m ρ K c _ _ _ (by decide) (by decide) (by decide) (by decide) (Fin.ext (by simp only [k0_dev32_eq, k0_dev33_eq, k0_dev34_eq, k0_dev35_eq, k0_dev36_eq, k0_dev37_eq, k0_dev38_eq, k0_dev39_eq, k0_dev40_eq, k0_dev41_eq, k0_dev42_eq, k0_dev43_eq, k0_dev44_eq, k0_dev45_eq, k0_dev46_eq, k0_dev47_eq, k0_dev48_eq, k0_dev49_eq, k0_dev50_eq, k0_dev51_eq, k0_dev52_eq, k0_dev53_eq, k0_dev54_eq, k0_dev55_eq, k0_dev56_eq, k0_dev57_eq, k0_dev58_eq, k0_dev59_eq, k0_dev60_eq, k0_dev61_eq, k0_dev62_eq, up])) ?_))
    ((with_reducible refine is_ret ?_); exact done)
  iterate 4
    apply seq
    · simp only [k0_part23_eq_skeleton, k0_part23_skel, k0_part24_eq_skeleton, k0_part24_skel, k0_part25_eq_skeleton, k0_part25_skel, k0_part26_eq_skeleton, k0_part26_skel, semWaitWord, Prog.lift, Prog.bind_op, Prog.bind_ret, Prog.pure_eq_ret]
      repeat (first
        | ((with_reducible refine is_wait ?_); refine alive_step m ρ K c _ _ (by decide) (by decide) _ rfl ?_)
        | ((with_reducible refine is_dma ?_); refine send_step m ρ K c _ _ _ (by decide) (by decide) (by decide) (by decide) (Fin.ext (by simp only [k0_dev32_eq, k0_dev33_eq, k0_dev34_eq, k0_dev35_eq, k0_dev36_eq, k0_dev37_eq, k0_dev38_eq, k0_dev39_eq, k0_dev40_eq, k0_dev41_eq, k0_dev42_eq, k0_dev43_eq, k0_dev44_eq, k0_dev45_eq, k0_dev46_eq, k0_dev47_eq, k0_dev48_eq, k0_dev49_eq, k0_dev50_eq, k0_dev51_eq, k0_dev52_eq, k0_dev53_eq, k0_dev54_eq, k0_dev55_eq, k0_dev56_eq, k0_dev57_eq, k0_dev58_eq, k0_dev59_eq, k0_dev60_eq, k0_dev61_eq, k0_dev62_eq, up])) ?_))
      ((with_reducible refine is_ret ?_); exact done)
  -- receiving
  apply seq
  · simp only [k0_part27_eq_skeleton, k0_part27_skel, semWaitWord, Prog.lift, Prog.bind_op, Prog.bind_ret, Prog.pure_eq_ret]
    refine (begin_recv m ρ K c).trans ?_
    refine own_in m ρ c (by repeat (first | exact in_head | refine in_tail ?_)) ?_
    repeat (first
      | ((with_reducible refine is_dmaWait ?_); refine recv_step m ρ K c _ (by decide) (by decide) ?_)
      | ((with_reducible refine is_load ?_); refine rload_last m ρ K c _ (by decide) (by decide) ?_))
    ((with_reducible refine is_ret ?_); exact done)
  iterate 12
    apply seq
    · simp only [k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, semWaitWord, Prog.lift, Prog.bind_op, Prog.bind_ret, Prog.pure_eq_ret]
      repeat (first
        | ((with_reducible refine is_dmaWait ?_); refine recv_step m ρ K c _ (by decide) (by decide) ?_)
        | ((with_reducible refine is_load ?_); refine rload_last m ρ K c _ (by decide) (by decide) ?_))
      ((with_reducible refine is_ret ?_); exact done)
  -- the result is stored
  apply seq
  · simp only [k0_part40_eq_skeleton, k0_part40_skel, semWaitWord, Prog.lift, Prog.bind_op, Prog.bind_ret, Prog.pure_eq_ret]
    refine rload_last m ρ K c _ (by decide) (by decide) ?_
    refine recv_step m ρ K c _ (by decide) (by decide) ?_
    refine rload_last m ρ K c _ (by decide) (by decide) ?_
    refine sep_left_comm.1.trans (ex_first fun f => load_held c oM f ?_)
    refine store_held c oM f (outV m ρ c) (write_o _ _) ?_
    refine (begin_sent m ρ K c).trans ?_
    refine sent_step m ρ K c _ (by decide) (by decide) ?_
    ((with_reducible refine is_ret ?_); exact done)
  -- the transfers end
  iterate 7
    apply seq
    · simp only [k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, semWaitWord, Prog.lift, Prog.bind_op, Prog.bind_ret, Prog.pure_eq_ret]
      repeat ((with_reducible refine is_dmaWait ?_); refine sent_step m ρ K c _ (by decide) (by decide) ?_)
      ((with_reducible refine is_ret ?_); exact done)
  simp only [semWaitWord, Prog.lift, Prog.bind_op, Prog.bind_ret, Prog.pure_eq_ret]
  repeat ((with_reducible refine is_dmaWait ?_); refine sent_step m ρ K c _ (by decide) (by decide) ?_)
  ((with_reducible refine is_ret ?_); exact done_any (F := F))

end Cert.Exch
-- ==== Proof.Run.lean ====
/-
# The launch of the 32 kernels

What each device starts from and what it leaves; the cells' invariants allocated for all devices at once; the duty tokens
dealt to the devices that pay; the credit each device waits on; and the run.
-/
module

public import proofs.«01_k».proof.Proof.Body
public import proofs.«01_k».proof.Proof.Gen.KernelIdeal.Points
public import Idealize.ShloMosaic.Lib.Pipeline.CollectiveSegs

@[expose] public section

set_option maxRecDepth 100000

noncomputable section

namespace Cert.Exch

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Families over a device's cells -/

theorem bigSep_fin3 (Φ : Fin 3 → sProp 𝕄) : bigSep Finset.univ Φ = iprop(Φ 0 ∗ Φ 1 ∗ Φ 2) :=
  bigSep_univ_eq_bigSepL [0, 1, 2] (by decide) (by decide) Φ

theorem own_split (Φ : Fin 3 × Fin 32 → sProp 𝕄) :
    bigSep Finset.univ Φ = iprop((bigSep Finset.univ fun j => Φ (0, j)) ∗ (bigSep Finset.univ fun j => Φ (1, j)) ∗ bigSep Finset.univ fun j => Φ (2, j)) := by
  rw [bigSep_univ_prod, bigSep_fin3]

theorem kd_cons (Φ : Kd → sProp 𝕄) : bigSep Finset.univ Φ = iprop(Φ none ∗ bigSep Finset.univ fun x => Φ (some x)) := by
  rw [show (Finset.univ : Finset Kd) = insert none (Finset.univ.map Function.Embedding.some) from by ext x; cases x <;> simp,
    bigSep_insert (by simp), bigSep_map]; rfl

theorem kd_split (Φ : Kd → sProp 𝕄) :
    bigSep Finset.univ Φ = iprop(Φ none ∗ (bigSep Finset.univ fun j => Φ (some (0, j))) ∗ (bigSep Finset.univ fun j => Φ (some (1, j)))
      ∗ bigSep Finset.univ fun j => Φ (some (2, j))) := by
  rw [kd_cons, own_split]

/-- The opposite slots of the slots from 1 on are the slots from 1 on. -/
theorem fam_opp (Φ : Fin 32 → sProp 𝕄) : bigSep (rem 1) Φ = bigSep (rem 1) fun j => Φ (opp j) := by
  have h : rem 1 = (rem 1).map ⟨opp, fun a b h => by rw [← opp_opp a, h, opp_opp]⟩ := by decide
  conv_lhs => rw [h]
  rw [bigSep_map]; rfl

/-! ## What a device starts from and what it leaves -/

/-- The duties device `c` pays: its own barrier's, the neighbours' alive and receive cells', its own send cells'. -/
def payToks (c : Dev nD) : sProp 𝕄 :=
  iprop(dutyTok ER (barC c) 0 () ∗ (bigSep (rem 1) fun j => dutyTok ER (alC (up c j) (opp j)) 0 ())
    ∗ (bigSep (rem 1) fun j => dutyTok ER (sdC c j) 0 ()) ∗ bigSep (rem 1) fun j => dutyTok ER (rcC (up c j) j) 0 ())
/-- With its positions in its own cells. -/
def lin (c : Dev nD) : sProp 𝕄 :=
  iprop((bigSep Finset.univ fun k : Kd => atPos ER (kcell (c, k)) 0 ∅ 0) ∗ payToks c)
/-- The units device `c` waits for. -/
def crd (c : Dev nD) : sProp 𝕄 :=
  iprop(cred (tallyAt (barC c) () 1) ∗ (bigSep (rem 1) fun j => cred (tallyAt (alC c j) () 1)) ∗ bigSep (rem 1) fun j => cred (tallyAt (rcC c j) () N))
def start (c : Dev nD) : sProp 𝕄 := iprop((∃ K, records m ρ K ∗ lin c) ∗ crd c ∗ levAts L lv)

abbrev ownAll (c : Dev nD) : sProp 𝕄 := Pipeline.ownSems0 (Ix := Unit) (Name := ℕ) (U := UU) (Lvl := ℕ) (Val := Elt F) (τ := τ) osem c
abbrev scr (c : Dev nD) : sProp 𝕄 := Pipeline.scopedRest (Ix := Unit) (Name := ℕ) (U := UU) (Lvl := ℕ) (Val := Elt F) cfg0.spec c

def Φ₀ (c : Dev nD) : sProp 𝕄 := iprop(start m ρ c ∗ scr c)
def Φ₁ (c : Dev nD) : sProp 𝕄 := iprop(unscopedSems0 c ∗ ownAll c ∗ scr c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => rstg m ρ c
    | ⟨2, _⟩ => wstg m ρ c
    | ⟨3, _⟩ => outV m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Slots in and out of their buffers -/

theorem rvPts_eq (c : Dev nD) (j : Fin 32) (f : (cc0_scratch2 : Ref sig .tc).ty.Contents (Elt F)) :
    rvPts c j f = (((c : Thread nD τ).loc cc0_scratch2) ↦[(slotR j).set]{fullShare} f : sProp 𝕄) := by unfold rvPts; rw [set_rv]
theorem ybPts_eq (c : Dev nD) (j : Fin 32) (f : (cc0_scratch1 : Ref sig .tc).ty.Contents (Elt F)) :
    ybPts c j f = (((c : Thread nD τ).loc cc0_scratch1) ↦[(slotR j).set]{fullShare} f : sProp 𝕄) := by unfold ybPts; rw [set_yb]

theorem rv_split (c : Dev nD) (f : (cc0_scratch2 : Ref sig .tc).ty.Contents (Elt F)) :
    (((c : Thread nD τ).loc cc0_scratch2) ↦{fullShare} f : sProp 𝕄)
      ⊢ iprop((∃ f, rvPts c 0 f) ∗ bigSep (rem 1) fun j => iprop(∃ f, rvPts (F := F) c (opp j) f)) := by
  rw [← fam_opp (fun j => iprop(∃ f, rvPts (F := F) c j f)), ← fam_univ (Φ := fun j => iprop(∃ f, rvPts (F := F) c j f)),
    Ring.pointsTo_blocks (ℓ := (c : Thread nD τ).loc cc0_scratch2) (q := fullShare) (fun j : Fin 32 => (slotR j).set) slot_disj slot_cover f]
  exact bigSep_mono fun j _ => (Entails.of_eq (rvPts_eq c j f).symm).trans (by iintro H; iexists f; iexact H)

theorem rv_join (c : Dev nD) (f₀ : (cc0_scratch2 : Ref sig .tc).ty.Contents (Elt F)) :
    iprop((∃ f, rvPts c 0 f) ∗ bigSep (rem 1) fun j => iprop(∃ f, rvPts (F := F) c j f))
      ⊢ (iprop(∃ f : Buf (Elt F) ((c : Thread nD τ).loc cc0_scratch2), ((c : Thread nD τ).loc cc0_scratch2) ↦{fullShare} f) : sProp 𝕄) := by
  rw [← fam_univ (Φ := fun j => iprop(∃ f, rvPts (F := F) c j f))]
  refine BIBase.Entails.trans (bigSep_mono fun j _ => ?_)
    (Ring.pointsTo_blocks_join_exists (ℓ := (c : Thread nD τ).loc cc0_scratch2) (q := fullShare) (fun j : Fin 32 => (slotR j).set) slot_disj slot_cover f₀)
  simp only [rvPts_eq]; exact BI.Entails.refl _

theorem yb_join (c : Dev nD) (f₀ : (cc0_scratch1 : Ref sig .tc).ty.Contents (Elt F)) :
    iprop((∃ f, ybPts c 0 f) ∗ bigSep (rem 1) fun j => iprop(∃ f, ybPts (F := F) c j f))
      ⊢ (iprop(∃ f : Buf (Elt F) ((c : Thread nD τ).loc cc0_scratch1), ((c : Thread nD τ).loc cc0_scratch1) ↦{fullShare} f) : sProp 𝕄) := by
  rw [← fam_univ (Φ := fun j => iprop(∃ f, ybPts (F := F) c j f))]
  refine BIBase.Entails.trans (bigSep_mono fun j _ => ?_)
    (Ring.pointsTo_blocks_join_exists (ℓ := (c : Thread nD τ).loc cc0_scratch1) (q := fullShare) (fun j : Fin 32 => (slotR j).set) slot_disj slot_cover f₀)
  simp only [ybPts_eq]; exact BI.Entails.refl _

/-- The cells of slot 0 have no duty: closed at the start. -/
theorem close_zero (K : Dev nD × Kd → ℕ) (c : Dev nD) (x : Fin 3) :
    iprop(pers m ρ K ∗ atPos ER (kcell (c, some (x, 0))) 0 ∅ 0) ⊢ (|={Set.univ}=> semVal (kcell (c, some (x, 0))) 0 : sProp 𝕄) := by
  iintro ⟨#HP, Hat⟩
  ihave #HI := (pers_inv m ρ K (c, some (x, 0))) $$ HP
  imod (Rounds.cell_close ER (Rd m ρ) (Set.mem_univ (K (c, some (x, 0)))) (fun h => h) (R := 0) (fun r _ => duties_none m ρ c (some (x, 0)) rfl r)) $$ [Hat] with Hv
  · isplitr; · iexact HI
    iexact Hat
  imodintro; iexact Hv

theorem unscopedSems0_eq (c : Dev nD) : (unscopedSems0 c : sProp 𝕄) = semVal (barC c) 0 := by
  unfold unscopedSems0; rw [bigSep_eq_bigSepL_of_eq [SemLoc.reg barS] (by decide) (by decide)]; rfl

theorem ownSems0_eq (c : Dev nD) : (ownAll c : sProp 𝕄)
    = iprop((bigSep Finset.univ fun j => semVal (alC c j) 0) ∗ (bigSep Finset.univ fun j => semVal (sdC c j) 0) ∗ bigSep Finset.univ fun j => semVal (rcC c j) 0) := by
  unfold ownAll Pipeline.ownSems0; rw [own_split]

/-! ## The body between the launch's two ends -/

/-- The pieces of a device's start, put as its body takes them. -/
theorem enter (K : Dev nD × Kd → ℕ) (c : Dev nD) (W : Waits sig Unit) (f₀ : (cc0_scratch0 : Ref sig .tc).ty.Contents (Elt F)) (f₁ : (cc0_scratch1 : Ref sig .tc).ty.Contents (Elt F))
    (f₂ : (cc0_scratch2 : Ref sig .tc).ty.Contents (Elt F)) (fo : (cc0_stg3_0 : Ref sig .tc).ty.Contents (Elt F)) :
    iprop(pers m ρ K ∗ lin c ∗ crd c ∗ owes (c : Thread nD τ) (O₀ c) W
        ∗ held c mM f₀ ∗ held c ybM f₁ ∗ (((c : Thread nD τ).loc cc0_scratch2) ↦{fullShare} f₂)
        ∗ held c xM (xstg m ρ c) ∗ held c rM (rstg m ρ c) ∗ held c wM (wstg m ρ c) ∗ held c oM fo)
      ⊢ (|={Set.univ}=> preSt m ρ K c : sProp 𝕄) := by
  unfold lin crd payToks
  rw [kd_split, fam_univ, fam_univ, fam_univ]
  iintro ⟨#HP, ⟨⟨HaB, ⟨HaA0, HaA⟩, ⟨HaS0, HaS⟩, ⟨HaR0, HaR⟩⟩, HtB, HtA, HtS, HtR⟩, ⟨HcB, HcA, HcR⟩, HO, Hm, Hy, Hv, Hx, Hr, Hw, Ho⟩
  imod (close_zero m ρ K c 0) $$ [HaA0] with HzA
  · isplitr; · iexact HP
    iexact HaA0
  imod (close_zero m ρ K c 1) $$ [HaS0] with HzS
  · isplitr; · iexact HP
    iexact HaS0
  imod (close_zero m ρ K c 2) $$ [HaR0] with HzR
  · isplitr; · iexact HP
    iexact HaR0
  ihave Hv := (rv_split c f₂) $$ Hv
  icases Hv with ⟨Hv0, Hv⟩
  ihave Hy := (chunks_intro c f₁) $$ Hy
  icases Hy with ⟨Hy0, Hy1, Hy2, Hy3⟩
  imodintro
  unfold preSt
  isplitr; · iexact HP
  isplitl [HO]; · iexists W; iexact HO
  isplitl [HaB HcB HtB]
  · isplitl [HcB]; · iexact HcB
    isplitl [HaB]; · iexact HaB
    iexact HtB
  isplitl [HtA Hv]
  · iapply (Entails.of_eq (bigSep_sep' (rem 1) (fun j => dutyTok ER (alC (up c j) (opp j)) 0 ()) (fun j => iprop(∃ f, rvPts (F := F) c (opp j) f))).symm)
    isplitl [HtA]; · iexact HtA
    iexact Hv
  isplitr [HzA HzS HzR Hv0]
  · isplitl [Hy0]; · iexact Hy0
    isplitl [Hy1]; · iexact Hy1
    isplitl [Hy2]; · iexact Hy2
    isplitl [Hy3]; · iexact Hy3
    isplitl [Hm]; · iexists f₀; iexact Hm
    isplitl [Hx]; · iexact Hx
    isplitl [Hr]; · iexact Hr
    isplitl [Hw]; · iexact Hw
    isplitl [Ho]; · iexists fo; iexact Ho
    isplitl [HcA HaA]
    · unfold alFam
      rw [don_one, bigSep_empty]
      isplitl
      · iapply (Entails.of_eq (bigSep_sep' (rem 1) (fun j => cred (tallyAt (alC c j) () 1)) (fun j => (atPos ER (alC c j) 0 ∅ 0 : sProp 𝕄))).symm)
        isplitl [HcA]; · iexact HcA
        iexact HaA
      · iempintro
    isplitl [HtR HtS]
    · unfold toks
      iapply (Entails.of_eq (bigSep_sep' (rem 1) (fun j => dutyTok ER (rcC (up c j) j) 0 ()) (fun j => (dutyTok ER (sdC c j) 0 () : sProp 𝕄))).symm)
      isplitl [HtR]; · iexact HtR
      iexact HtS
    isplitl [HaS]; · unfold sdAt; iexact HaS
    unfold rcAll
    iapply (Entails.of_eq (bigSep_sep' (rem 1) (fun j => cred (tallyAt (rcC c j) () N)) (fun j => (atPos ER (rcC c j) 0 ∅ 0 : sProp 𝕄))).symm)
    isplitl [HcR]; · iexact HcR
    iexact HaR
  isplitl [HzA]; · iexact HzA
  isplitl [HzS]; · iexact HzS
  isplitl [HzR]; · iexact HzR
  iexact Hv0

theorem some_contents {S : Finset (Fin 32)} {Φ : Fin 32 → sProp 𝕄} {β : Type} {Ψ : Fin 32 → β → sProp 𝕄} (b : β) :
    bigSep S (fun j => iprop(Φ j ∗ Ψ j b)) ⊢ iprop(bigSep S Φ ∗ bigSep S fun j => iprop(∃ f, Ψ j f)) := by
  rw [bigSep_sep']
  exact BI.sep_mono (BI.Entails.refl _) (bigSep_mono fun j _ => show Ψ j b ⊢ iprop(∃ f, Ψ j f) by iintro H; iexists b; iexact H)

/-- What the body leaves, put as the launch takes it back. -/
theorem leave (K : Dev nD × Kd → ℕ) (c : Dev nD) :
    leaveSt m ρ K c ⊢ iprop(Φ₁ c ∗ (∃ W, owes (c : Thread nD τ) 0 W)
      ∗ held c xM (xstg m ρ c) ∗ held c rM (rstg m ρ c) ∗ held c wM (wstg m ρ c) ∗ held c oM (outV m ρ c)) := by
  unfold leaveSt DSt Z0 Φ₁ alDone scr
  rw [unscopedSems0_eq, ownSems0_eq, fam_univ, fam_univ, fam_univ, scopedRest0_eq, don_end]
  iintro ⟨⟨-, HO, -, Hsd⟩, Ho, Hy0, Hm, Hx, Hr, Hw, Hal, Hrc, HzB, HzA, HzS, HzR, Hv0⟩
  ihave Hsd := (some_contents (YB m ρ c)) $$ Hsd
  icases Hsd with ⟨Hsd, Hy⟩
  ihave Hrc := (some_contents (RV m ρ c)) $$ Hrc
  icases Hrc with ⟨Hrc, Hv⟩
  isplitl [HzB HzA HzS HzR Hal Hsd Hrc Hv Hv0 Hy Hy0 Hm]
  · isplitl [HzB]; · iexact HzB
    isplitl [HzA HzS HzR Hal Hsd Hrc]
    · isplitl [HzA Hal]
      · isplitl [HzA] <;> iassumption
      isplitl [HzS Hsd]
      · isplitl [HzS] <;> iassumption
      isplitl [HzR] <;> iassumption
    isplitl [Hm]; · unfold held; iexists (MX m ρ c); iexact Hm
    isplitl [Hy0 Hy]
    · iapply (yb_join c (YB m ρ c))
      isplitl [Hy0]; · iexists (YB m ρ c); iexact Hy0
      iexact Hy
    iapply (rv_join c (RV m ρ c))
    isplitl [Hv0]; · iexact Hv0
    iexact Hv
  isplitl [HO]; · iexact HO
  isplitl [Hx]; · iexact Hx
  isplitl [Hr]; · iexact Hr
  isplitl [Hw]; · iexact Hw
  iexact Ho

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))
def bodyPost (c : Dev nD) : sProp 𝕄 :=
  iprop(Φ₁ c ∗ (dats m ρ 0 c).owesAt () t₀.succ
    ∗ stg c cc0_stg0_0 (xstg m ρ c) ∗ stg c cc0_stg1_0 (rstg m ρ c) ∗ stg c cc0_stg2_0 (wstg m ρ c) ∗ stg c cc0_stg3_0 (outV m ρ c))

theorem before_x (c : Dev nD) (d) : (dats m ρ 0 c).before (0 : Fin 4) t₀ d = xstg m ρ c := by
  unfold Dat.before; rw [if_pos (fetch0_0 t₀)]; rfl
theorem before_r (c : Dev nD) (d) : (dats m ρ 0 c).before (1 : Fin 4) t₀ d = rstg m ρ c := by
  unfold Dat.before; rw [if_pos (fetch0_1 t₀)]; rfl
theorem before_w (c : Dev nD) (d) : (dats m ρ 0 c).before (2 : Fin 4) t₀ d = wstg m ρ c := by
  unfold Dat.before; rw [if_pos (fetch0_2 t₀)]; rfl

theorem leave_post (K : Dev nD × Kd → ℕ) (c : Dev nD) : leaveSt m ρ K c ⊢ bodyPost m ρ c := by
  refine (leave m ρ K c).trans ?_
  unfold bodyPost Dat.owesAt Pipeline.owesWithin held
  rw [show (dats m ρ 0 c).owed t₀.succ = 0 from rfl]
  iintro ⟨HΦ, ⟨%W, HO⟩, Hx, Hr, Hw, Ho⟩
  isplitl [HΦ]; · iexact HΦ
  isplitl [HO]
  · iexists W
    isplitr; · ipureintro; exact fun _ _ => Or.inl trivial
    iexact HO
  isplitl [Hx]
  · iexists (xstg m ρ c); isplitr; · (ipureintro; rfl)
    iexact Hx
  isplitl [Hr]
  · iexists (rstg m ρ c); isplitr; · (ipureintro; rfl)
    iexact Hr
  isplitl [Hw]
  · iexists (wstg m ρ c); isplitr; · (ipureintro; rfl)
    iexact Hw
  iexists (outV m ρ c); isplitr; · (ipureintro; rfl)
  iexact Ho

theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ WP c (cc0_body xM (Memref.isWhole_whole _) rM (Memref.isWhole_whole _) wM (Memref.isWhole_whole _) oM (Memref.isWhole_whole _)
      mM (Memref.isWhole_whole _) ybM (Memref.isWhole_whole _) rvM (Memref.isWhole_whole _) cc0_scratch3 cc0_scratch4 cc0_scratch5) (fun _ => bodyPost m ρ c)
  unfold bodyPre Φ₀ start scr
  rw [scopedRest0_eq]
  simp only [before_x, before_r, before_w]
  unfold Dat.owesAt Pipeline.owesWithin
  rw [show (dats m ρ 0 c).owed t₀.castSucc = O₀ c from rfl]
  iintro ⟨⟨⟨⟨%K, HR, Hlin⟩, Hcr, Hlev⟩, ⟨%f₀, Hm⟩, ⟨%f₁, Hy⟩, ⟨%f₂, Hv⟩⟩, ⟨%W, -, HO⟩, ⟨%_, %fx, %hx, Hx⟩, ⟨%_, %fr, %hr, Hr⟩, ⟨%_, %fw, %hw, Hw⟩, ⟨%_, %fo, %ho, Ho⟩⟩
  subst hx hr hw
  imod (enter m ρ K c W f₀ f₁ f₂ fo) $$ [HR Hlin Hcr Hlev Hm Hy Hv HO Hx Hr Hw Ho] with H
  · isplitl [HR Hlev]
    · unfold pers
      isplitl [HR] <;> iassumption
    isplitl [Hlin]; · iexact Hlin
    isplitl [Hcr]; · iexact Hcr
    isplitl [HO]; · iexact HO
    unfold held
    isplitl [Hm]; · iexact Hm
    isplitl [Hy]; · iexact Hy
    isplitl [Hv]; · iexact Hv
    isplitl [Hx]; · iexact Hx
    isplitl [Hr]; · iexact Hr
    isplitl [Hw]; · iexact Hw
    iexact Ho
  iapply (sound_body m ρ K c (fun _ => bodyPost m ρ c) (leave_post m ρ K c))
  iexact H

/-! ## The launch -/

theorem ownSemFacts : Pipeline.OwnSemFacts cfg0.spec osem := by decide

theorem share_eq (c : Dev nD) (w : Fin cfg0.W) : (dats m ρ 0 c).share w = fullShare := by unfold Dat.share; split <;> rfl

def exCells : Finset (GSem nD τ sig) := Finset.univ.map ⟨kcell, kcell_inj⟩
def exToks : Finset (GSem nD τ sig × ℕ × Unit) :=
  Finset.univ.map ⟨fun ck : Dev nD × Kd => (kcell ck, 0, ()), fun _ _ h => kcell_inj (congrArg Prod.fst h)⟩

def u₀ : UU :=
  (initOf (Pipeline.cells cfgs cellOf_inj) (Pipeline.launchToks cfgs cellOf_inj), initOf exCells exToks)

/-- The duty tokens of device `c`'s own cells. -/
def ownToks (c : Dev nD) : sProp 𝕄 := bigSep Finset.univ fun k : Kd => dutyTok ER (kcell (c, k)) 0 ()

def G (c : Dev nD) : sProp 𝕄 :=
  iprop((bigSep Finset.univ fun k : Kd => roundState ER (Rd m ρ) (kcell (c, k)) 0)
    ∗ (bigSep Finset.univ fun k : Kd => iprop(atPos ER (kcell (c, k)) 0 ∅ 0 ∗ reached ER (kcell (c, k)) 0)) ∗ ownToks c)
def G' (c : Dev nD) : sProp 𝕄 := iprop(∃ K, records m ρ K ∗ lin c)

theorem fund_exch : BI.own (ER (initOf exCells exToks)) ⊢ (|==> bigSep Finset.univ (G m ρ) : sProp 𝕄) := by
  have hX (Φ : GSem nD τ sig → sProp 𝕄) : bigSep exCells Φ = bigSep Finset.univ fun c : Dev nD => bigSep Finset.univ fun k : Kd => Φ (kcell (c, k)) := by
    unfold exCells; rw [bigSep_map, bigSep_univ_prod]; rfl
  have hT : bigSep exToks (fun x => (dutyTok ER x.1 x.2.1 x.2.2 : sProp 𝕄)) = bigSep Finset.univ fun c : Dev nD => ownToks c := by
    unfold exToks; rw [bigSep_map, bigSep_univ_prod]; rfl
  iintro HX
  imod (Rounds.fund ER (Rd m ρ) exCells exToks) $$ HX with ⟨Hst, Hr, Hat, Htok⟩
  imodintro
  ihave Hst := (Entails.of_eq (hX fun g => roundState ER (Rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

theorem sems0_eq (c : Dev nD) :
    iprop(ownAll c ∗ unscopedSems0 c) ⊢ (bigSep Finset.univ fun k : Kd => semVal (kcell (c, k)) 0 : sProp 𝕄) := by
  rw [unscopedSems0_eq, kd_cons]
  iintro ⟨HO, HB⟩
  isplitl [HB]; · iexact HB
  unfold ownAll Pipeline.ownSems0; iexact HO

theorem core_alloc (c : Dev nD) :
    iprop(ownAll c ∗ unscopedSems0 c ∗ G m ρ c)
      ⊢ |={Set.univ}=> iprop((bigSep Finset.univ fun k => iprop(∃ κ : ℕ, cellInv ER (Rd m ρ) κ (kcell (c, k))))
          ∗ (bigSep Finset.univ fun k : Kd => iprop(atPos ER (kcell (c, k)) 0 ∅ 0 ∗ reached ER (kcell (c, k)) 0)) ∗ ownToks c) := by
  unfold G
  iintro ⟨Hos, Hus, Hst, Hat, Htok⟩
  ihave Hv := (sems0_eq (F := F) c) $$ [Hos Hus]
  · isplitl [Hos] <;> iassumption
  imod (show iprop((bigSep Finset.univ fun k : Kd => semVal (kcell (c, k)) 0) ∗ bigSep Finset.univ fun k : Kd => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A family over devices and slots, each slot's devices moved around by the slot. -/
def turn (j : Fin 32) : Dev nD ≃ Dev nD := ⟨fun c => up c j, fun c => dn c j, fun c => dn_up c j, fun c => up_dn c j⟩
theorem fam_comm {A B : Type} [DecidableEq A] [DecidableEq B] (s : Finset A) (t : Finset B) (Φ : A → B → sProp 𝕄) :
    (bigSep s fun a => bigSep t fun b => Φ a b) = bigSep t fun b => bigSep s fun a => Φ a b := by
  induction s using Finset.induction_on with
  | empty => simp
  | insert a s ha ih =>
    rw [bigSep_insert ha, ih, bigSep_congr (s := t) fun b _ => bigSep_insert ha]; exact (bigSep_sep' t (fun b => Φ a b) fun b => bigSep s fun a => Φ a b).symm
theorem around (Φ : Dev nD → Fin 32 → sProp 𝕄) :
    (bigSep Finset.univ fun c => bigSep (rem 1) fun j => Φ c j) = bigSep Finset.univ fun c => bigSep (rem 1) fun j => Φ (up c j) j := by
  rw [fam_comm Finset.univ (rem 1) Φ, fam_comm Finset.univ (rem 1) fun c j => Φ (up c j) j]
  exact bigSep_congr fun j _ => bigSep_univ_equiv (turn j) fun c => Φ c j

theorem toks_around : (bigSep Finset.univ fun c : Dev nD => (ownToks c : sProp 𝕄)) ⊢ bigSep Finset.univ fun c : Dev nD => payToks c := by
  have h : ∀ c : Dev nD, (ownToks c : sProp 𝕄) ⊢ iprop(dutyTok ER (barC c) 0 () ∗ (bigSep (rem 1) fun j => dutyTok ER (alC c (opp j)) 0 ())
      ∗ (bigSep (rem 1) fun j => dutyTok ER (sdC c j) 0 ()) ∗ bigSep (rem 1) fun j => dutyTok ER (rcC c j) 0 ()) := fun c => by
    unfold ownToks
    rw [kd_split, fam_univ, fam_univ, fam_univ, fam_opp (fun j => dutyTok ER (kcell (c, some (0, j))) 0 ())]
    iintro ⟨HB, ⟨-, HA⟩, ⟨-, HS⟩, -, HR⟩
    isplitl [HB]; · iexact HB
    isplitl [HA]; · iexact HA
    isplitl [HS] <;> iassumption
  refine (bigSep_mono fun c _ => h c).trans ?_
  unfold payToks
  rw [bigSep_sep', bigSep_sep', bigSep_sep', bigSep_sep', bigSep_sep', bigSep_sep',
    around (fun c j => dutyTok ER (alC c (opp j)) 0 ()), around (fun c j => dutyTok ER (rcC c j) 0 ())]
  exact BI.Entails.refl _

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m ρ) κ (kcell (c, k))))
          ∗ (bigSep Finset.univ fun k : Kd => iprop(atPos ER (kcell (c, k)) 0 ∅ 0 ∗ reached ER (kcell (c, k)) 0)) ∗ ownToks c) : sProp 𝕄)
      ⊢ bigSep Finset.univ (G' m ρ) := by
  rw [bigSep_sep', bigSep_sep', ← bigSep_univ_prod (fun ck : Dev nD × Kd => iprop(∃ κ : ℕ, cellInv ER (Rd m ρ) κ (kcell ck))),
    bigSep_congr (s := Finset.univ) (fun (c : Dev nD) _ => bigSep_sep' Finset.univ (fun k : Kd => (atPos ER (kcell (c, k)) 0 ∅ 0 : sProp 𝕄)) (fun k => reached ER (kcell (c, k)) 0)),
    bigSep_sep', ← bigSep_univ_prod (fun ck : Dev nD × Kd => (reached ER (kcell ck) 0 : sProp 𝕄))]
  iintro ⟨HI, ⟨Hat, #HR⟩, Htok⟩
  ihave HK := (BI.bigSep_exists_pi Finset.univ (fun (ck : Dev nD × Kd) (κ : ℕ) => (cellInv ER (Rd m ρ) κ (kcell ck) : sProp 𝕄))) $$ HI
  icases HK with ⟨%K, #HI⟩
  ihave Htk := (toks_around (F := F)) $$ Htok
  iapply (bigSep_with_persistent (R := records m ρ K) (Φ := fun c => lin c) (Ψ := G' m ρ) fun c _ => show iprop(records m ρ K ∗ lin c) ⊢ G' m ρ c by
    unfold G'; iintro H; iexists K; iexact H)
  isplitr
  · unfold records; isplitl; · iexact HI
    iexact HR
  · unfold lin
    iapply (Entails.of_eq (bigSep_sep' Finset.univ (fun c : Dev nD => bigSep Finset.univ fun k : Kd => (atPos ER (kcell (c, k)) 0 ∅ 0 : sProp 𝕄)) payToks).symm)
    isplitl [Hat]; · iexact Hat
    iexact Htk

theorem glob : (bigSep Finset.univ fun c => iprop(ownAll c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

/-- What a cell of each kind is owed. -/
def dueK : Kd → ℕ
  | none => 1
  | some (0, j) => if j = 0 then 0 else 1
  | some (1, j) => 0
  | some (2, j) => if j = 0 then 0 else N

theorem sum_kd {M : Type} [AddCommMonoid M] (f : Kd → M) : ∑ k, f k = f none + ((∑ j, f (some (0, j))) + (∑ j, f (some (1, j))) + ∑ j, f (some (2, j))) := by
  rw [Fintype.sum_option, Fintype.sum_prod_type, Fin.sum_univ_three]

theorem sum_opp {M : Type} [AddCommMonoid M] (f : Fin 32 → M) : ∑ j ∈ rem 1, f (opp j) = ∑ j ∈ rem 1, f j :=
  Finset.sum_nbij' opp opp (fun j => by revert j; decide) (fun j => by revert j; decide) (fun j _ => opp_opp j) (fun j _ => opp_opp j) fun _ _ => rfl

theorem sum_around {M : Type} [AddCommMonoid M] (f : Dev nD → Fin 32 → M) : ∑ c, ∑ j ∈ rem 1, f (up c j) j = ∑ c, ∑ j ∈ rem 1, f c j := by
  rw [Finset.sum_comm, Finset.sum_comm (s := Finset.univ) (f := f)]
  exact Finset.sum_congr rfl fun j _ => Equiv.sum_comp (turn j) fun c => f c j

theorem sum_rem {M : Type} [AddCommMonoid M] (f : Fin 32 → M) (h : f 0 = 0) : ∑ j, f j = ∑ j ∈ rem 1, f j := by
  rw [univ_rem, Finset.sum_insert zero_not_rem, h, zero_add]

theorem tallyAt_zero' (g : GSem nD τ sig) : (tallyAt g () 0 : CellTallies nD τ sig Unit) = 0 := by
  unfold tallyAt; rw [Finsupp.single_zero, tallyOn_zero]

/-- All that is owed at launch, cell by cell. -/
theorem owed_all : ∑ d, O₀ d = ∑ ck : Dev nD × Kd, (tallyAt (kcell ck) () (dueK ck.2) : CellTallies nD τ sig Unit) := by
  unfold O₀ Orc Oal
  rw [Finset.sum_add_distrib, Finset.sum_add_distrib, Fintype.sum_prod_type, sum_around (fun c j => (tallyAt (rcC c j) () N : CellTallies nD τ sig Unit)),
    sum_around (fun c j => (tallyAt (alC c (opp j)) () 1 : CellTallies nD τ sig Unit)), ← Finset.sum_add_distrib, ← Finset.sum_add_distrib]
  refine Finset.sum_congr rfl fun c _ => ?_
  rw [sum_kd, sum_opp (fun j => (tallyAt (alC c j) () 1 : CellTallies nD τ sig Unit)),
    sum_rem (fun j => (tallyAt (kcell (c, some (0, j))) () (dueK (some (0, j))) : CellTallies nD τ sig Unit)) (tallyAt_zero' _),
    sum_rem (fun j => (tallyAt (kcell (c, some (2, j))) () (dueK (some (2, j))) : CellTallies nD τ sig Unit)) (tallyAt_zero' _),
    Finset.sum_eq_zero (s := Finset.univ) (f := fun j => (tallyAt (kcell (c, some (1, j))) () (dueK (some (1, j))) : CellTallies nD τ sig Unit)) (fun j _ => tallyAt_zero' _),
    add_zero, add_comm (tallyAt (kcell (c, none)) () (dueK none)), add_comm (∑ j ∈ rem 1, (tallyAt (kcell (c, some (0, j))) () (dueK (some (0, j))) : CellTallies nD τ sig Unit))]
  refine congrArg₂ _ (congrArg₂ _ (Finset.sum_congr rfl fun j hj => ?_) (Finset.sum_congr rfl fun j hj => ?_)) rfl
  · rw [show dueK (some (2, j)) = N from if_neg ((mem_rem_one j).mp hj)]
  · rw [show dueK (some (0, j)) = 1 from if_neg ((mem_rem_one j).mp hj)]

theorem launch_at (ck : Dev nD × Kd) :
    tallyOn (kcell ck) (launchCredit (Pipeline.owing O₀) 0 (kcell ck)) = (tallyAt (kcell ck) () (dueK ck.2) : CellTallies nD τ sig Unit) := by
  unfold tallyAt; refine congrArg _ (Finsupp.ext fun u => ?_); cases u
  rw [Pipeline.launchCredit_owing, Finsupp.single_eq_same, ← Finsupp.finset_sum_apply, ← Finset.sum_apply, owed_all, Finset.sum_apply, Finsupp.finset_sum_apply,
    Finset.sum_eq_single ck (fun b _ hb => by rw [tallyAt_apply, if_neg fun h => hb (kcell_inj h.1).symm]) (fun h => absurd (Finset.mem_univ _) h),
    tallyAt_apply, if_pos ⟨rfl, rfl⟩]

theorem creds (c : Dev nD) : (Pipeline.launchCred O₀ c : sProp 𝕄) ⊢ crd c := by
  unfold Pipeline.launchCred
  refine BIBase.Entails.trans (bigSep_subset (t := Finset.univ.map ⟨csem, csem_inj⟩) (Finset.subset_univ _)) ?_
  rw [bigSep_map]
  refine BIBase.Entails.trans (Entails.of_eq (bigSep_congr fun k _ => show _ = (cred (tallyAt (kcell (c, k)) () (dueK k)) : sProp 𝕄) from congrArg cred (launch_at (c, k)))) ?_
  unfold crd
  rw [kd_split, fam_univ, fam_univ (Φ := fun j => cred (tallyAt (kcell (c, some (2, j))) () (dueK (some (2, j)))))]
  iintro ⟨HB, ⟨-, HA⟩, -, -, HR⟩
  isplitl [HB]; · iexact HB
  isplitl [HA]
  · iapply (show (bigSep (rem 1) fun j => (cred (tallyAt (kcell (c, some (0, j))) () (dueK (some (0, j)))) : sProp 𝕄)) ⊢ bigSep (rem 1) fun j => cred (tallyAt (alC c j) () 1)
      from Entails.of_eq (bigSep_congr fun j hj => by rw [show dueK (some (0, j)) = 1 from if_neg ((mem_rem_one j).mp hj)]))
    iexact HA
  · iapply (show (bigSep (rem 1) fun j => (cred (tallyAt (kcell (c, some (2, j))) () (dueK (some (2, j)))) : sProp 𝕄)) ⊢ bigSep (rem 1) fun j => cred (tallyAt (rcC c j) () N)
      from Entails.of_eq (bigSep_congr fun j hj => by rw [show dueK (some (2, j)) = N from if_neg ((mem_rem_one j).mp hj)]))
    iexact HR

/-! ### The theorem's side conditions -/

/-- The array no window holds, kept aside over the run. -/
def aside (c : Dev nD) : sProp 𝕄 := ((c : Thread nD τ).loc main_arg1) ↦{fullShare} m ((c : Thread nD τ).loc main_arg1)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ aside m c) := by
  rw [Pipeline.unscopedRestP_none, show (cfg0.spec) = spec0 from rfl, unscopedRest0_eq]
  iintro ⟨Ha, Hlev, Hcr, -, HG⟩
  ihave Hc := (creds (F := F) c) $$ Hcr
  imodintro
  unfold start G' aside
  isplitr [Ha]
  · isplitl [HG]; · iexact HG
    isplitl [Hc]; · iexact Hc
    iexact Hlev
  · iexact Ha

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀ scr
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) :=
  BI.Entails.refl _

theorem lv_stage (c : Dev nD) (q : DmaSem sig) (h : q.val < 4) : lv ((c : Thread nD τ), .dma q) () = 0 := by
  unfold lv
  refine Function.extend_apply' _ _ _ ?_
  have hd : ∀ {a b : DmaSem sig}, (SemLoc.dma a : SemLoc sig) = .dma b → a.val = b.val := fun h => by cases h; rfl
  rintro ⟨_ | ⟨x, j⟩, hk⟩
  · cases hk
  · fin_cases x
    · cases hk
    · have := hd hk; rw [sdS_val] at this; omega
    · have := hd hk; rw [rcS_val] at this; omega

theorem mayWait_stage (c : Dev nD) (q : DmaSem sig) (h : q.val < 4) (O : CellTallies nD τ sig Unit) (hO : O = O₀ c ∨ O = 0) :
    (levAts L lv : sProp 𝕄) ⊢ MayWait (c : Thread nD τ) (.dma q) () O :=
  mayWait_cut c _ 0 (Nat.le_of_eq (lv_stage c q h)) O fun g u hg => by
    rcases hO with rfl | rfl
    · exact O₀_pos hg
    · exact absurd hg (Nat.lt_irrefl 0)

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

/-- From any memory with zero counters, for any float values, every run of the 32 kernels ends: with the windows' arrays at
    the computed contents, the array no window holds as it was and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_exch m ρ) $$ HX with HG
      imodintro
      isplitl [HP] <;> iassumption)
    (hglob := glob m ρ)
    (hA := fun _ _ => rfl) (hpf := fun _ k => k.elim0)
    (X := start m ρ) (Y := fun c => unscopedSems0 c) (Z := aside m)
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      unfold aside
      iintro ⟨Hu, Ha, HSI⟩
      icombine HSI Ha gives %h
      imod (Pipeline.unscopedSems0_read (X := unscopedSems0 c) (c := c) fupd_intro s') $$ [Hu HSI] with ⟨%hs, HSI⟩
      · isplitl [Hu] <;> iassumption
      imodintro
      isplitr; · ipureintro; exact ⟨hs, Buf.eq_of_forall_mem_univ h⟩
      iexact HSI)
    (hQ := fun _ h hs => ⟨fun c => ⟨fun w => (h c).1 w, (h c).2.2.2⟩, sem_eq_zero hs fun c => (h c).2.2.1⟩)

/-- The operands' arrays after the run hold what they held. -/
theorem finalA_x (c : Dev nD) : finalA m ρ c (0 : Fin 4) = (s₀ m ρ).mem (win0_0.arr.view.loc (c : Thread nD τ)) :=
  (dats (F := F) m ρ 0 c).arrAt_in (0 : Fin 4) rfl _
theorem finalA_r (c : Dev nD) : finalA m ρ c (1 : Fin 4) = (s₀ m ρ).mem (win0_1.arr.view.loc (c : Thread nD τ)) :=
  (dats (F := F) m ρ 0 c).arrAt_in (1 : Fin 4) rfl _
theorem finalA_w (c : Dev nD) : finalA m ρ c (2 : Fin 4) = (s₀ m ρ).mem (win0_2.arr.view.loc (c : Thread nD τ)) :=
  (dats (F := F) m ρ 0 c).arrAt_in (2 : Fin 4) rfl _

end Cert.Exch

end
-- ==== Proof.Mask.lean ====
/-
# Which tokens an expert keeps

A token is kept by its expert where at most six tokens up to and including it have that expert. The kernel counts them
by adding shifted copies, the shift doubling from 1 to 256: each addition doubles the window that an entry sums over.
-/
module

public import proofs.«01_k».proof.Proof.Gen.KernelIdeal
public import proofs.«01_k».proof.Proof.Gen.KernelIdeal.Skeleton
public import Idealize.ShloMosaic.PureOps.Ideal
public import Idealize.ShloMosaic.Lib.Pointwise

@[expose] public section

set_option maxRecDepth 100000

noncomputable section

namespace Cert.Exch

open Idealize.ShloMosaic
open Cert.KernelIdeal Cert.KernelIdeal.Gen
open scoped BigOperators

/-! ## Window sums -/

/-- The sum of `f` over the last `n` places up to `t`. -/
def win {A : Type} [AddCommMonoid A] (n : ℕ) (f : ℕ → A) (t : ℕ) : A := ∑ i ∈ Finset.range n, if i ≤ t then f (t - i) else 0

theorem win_one {A : Type} [AddCommMonoid A] (f : ℕ → A) (t : ℕ) : win 1 f t = f t := by
  simp [win]

/-- A window of twice the length is a window and the one before it. -/
theorem win_add {A : Type} [AddCommMonoid A] (n : ℕ) (f : ℕ → A) (t : ℕ) :
    win (n + n) f t = win n f t + if t < n then 0 else win n f (t - n) := by
  unfold win
  rw [Finset.sum_range_add]
  congr 1
  split
  · exact Finset.sum_eq_zero fun i _ => if_neg (by omega)
  · refine Finset.sum_congr rfl fun i _ => ?_
    by_cases hi : i ≤ t - n
    · rw [if_pos (by omega), if_pos hi, show t - (n + i) = t - n - i by omega]
    · rw [if_neg (by omega), if_neg hi]

theorem win_cast (n : ℕ) (f : ℕ → ℕ) (t : ℕ) : win n (fun s => ((f s : ℕ) : EReal)) t = ((win n f t : ℕ) : EReal) := by
  unfold win
  rw [Nat.cast_sum]
  exact Finset.sum_congr rfl fun i _ => by split <;> simp

theorem win_le (n : ℕ) (f : ℕ → ℕ) (t : ℕ) (hf : ∀ s, f s ≤ 1) : win n f t ≤ n := by
  unfold win
  refine (Finset.sum_le_card_nsmul _ _ 1 fun i _ => ?_).trans (by simp)
  split
  · exact hf _
  · exact Nat.zero_le _

theorem win_pos (n : ℕ) (hn : 0 < n) (f : ℕ → ℕ) (t : ℕ) (hf : f t = 1) : 1 ≤ win n f t := by
  unfold win
  refine le_trans (by rw [if_pos (Nat.zero_le _), Nat.sub_zero, hf]) (Finset.single_le_sum (f := fun i => if i ≤ t then f (t - i) else 0) (fun _ _ => Nat.zero_le _) (Finset.mem_range.mpr hn))

/-! ## One addition of a shifted copy -/

theorem step {n k : ℕ} (hn : n + k = 512) (hc : Shape.Concatenates [⟨2, ![n, 64]⟩, ⟨2, ![k, 64]⟩] S512x64 0)
    (hs : S512x64.Slices ![0, 0] ⟨2, ![k, 64]⟩) (v : FVec Ideal S512x64 .f32) (g : ℕ → EReal) (e : Fin 64)
    (h : ∀ t : Fin 512, v (ix2 t e) = win n g t.val) (t : Fin 512) :
    addf v (concatenate S512x64 0 [⟨⟨2, ![n, 64]⟩, broadcast ⟨2, ![n, 64]⟩ (Scalar.ofBits .f32 0x00000000#32)⟩,
      ⟨⟨2, ![k, 64]⟩, extractStridedSlice ⟨2, ![k, 64]⟩ ![0, 0] v hs⟩] hc) (ix2 t e) = win (n + n) g t.val := by
  rw [win_add]
  rw [addf_apply, Ideal.addf_def, h t]
  congr 1
  rw [concatenate_pair_apply]
  by_cases ht : t.val < n
  · rw [if_pos ht]
    refine (dif_pos (show ((ix2 t e : S512x64.Idx) 0).val < n from ht)).trans ?_
    exact Ideal.ofBits_zero_f32
  · rw [if_neg ht, ← h ⟨t.val - n, by omega⟩]
    refine (dif_neg (show ¬ ((ix2 t e : S512x64.Idx) 0).val < n from ht)).trans ?_
    show v _ = v _
    congr 1
    funext a
    match a with
    | ⟨0, _⟩ => exact Fin.ext (by show 0 + (t.val - n) = t.val - n; omega)
    | ⟨1, _⟩ => exact Fin.ext (by show 0 + e.val = e.val; omega)

/-! ## The count and the kernel's mask -/

/-- One where token `s` has expert `e`, zero elsewhere. -/
def hot (r : IVec S512x1 32) (e : Fin 64) (s : ℕ) : ℕ :=
  if h : s < 512 then if r (ix2 ⟨s, h⟩ 0) = BitVec.ofNat 32 e.val then 1 else 0 else 0

/-- The tokens up to and including `t` that have expert `e`. -/
def cnt (r : IVec S512x1 32) (e : Fin 64) (t : ℕ) : ℕ := win 512 (hot r e) t

/-- Token `t` has expert `e` and is among the first six that have it. -/
def kept (r : IVec S512x1 32) (t : Fin 512) (e : Fin 64) : Prop := r (ix2 t 0) = BitVec.ofNat 32 e.val ∧ cnt r e t.val ≤ 6

theorem hot_le (r : IVec S512x1 32) (e : Fin 64) (s : ℕ) : hot r e s ≤ 1 := by
  unfold hot; split
  · split <;> omega
  · omega
theorem cnt_le (r : IVec S512x1 32) (e : Fin 64) (t : ℕ) : cnt r e t ≤ 512 := win_le _ _ _ (hot_le r e)

theorem hot_at (r : IVec S512x1 32) (e : Fin 64) (t : Fin 512) : hot r e t.val = if r (ix2 t 0) = BitVec.ofNat 32 e.val then 1 else 0 := by
  unfold hot; rw [dif_pos t.isLt]

theorem cnt_pos (r : IVec S512x1 32) (e : Fin 64) (t : Fin 512) (h : r (ix2 t 0) = BitVec.ofNat 32 e.val) : 1 ≤ cnt r e t.val :=
  win_pos _ (by decide) _ _ (by rw [hot_at, if_pos h])

theorem word_e {e e' : Fin 64} (h : BitVec.ofNat 32 e.val = BitVec.ofNat 32 e'.val) : e = e' := by
  have := congrArg BitVec.toNat h
  simp only [BitVec.toNat_ofNat] at this
  exact Fin.ext (by omega)

theorem six_half : Ideal.ofBits .f32 0x40D00000#32 = ((6.5 : ℝ) : EReal) := by
  simp [Ideal.ofBits, Ideal.ieee, -EReal.coe_mul]; norm_num

/-- The 0/1 table of tokens and experts, as numbers. -/
theorem onehot_at (r : IVec S512x1 32) (t : Fin 512) (e : Fin 64) :
    (sitofp (F := Ideal) .f32 (extui 32 (cmpi .eq (broadcastTo S512x64 r Gen.facts.broadcasts_S512x1_S512x64) (iota .tc S512x64 32 [1] Gen.facts.iota_S512x64_d1_w32))
      Gen.facts.natLt_1_32) : FVec Ideal S512x64 .f32) (ix2 t e) = ((hot r e t.val : ℕ) : EReal) := by
  rw [hot_at]
  pointwise
  show (((BitVec.setWidth 32 (IntOp.cmpi CmpIPredicate.eq (r (ix2 t 0)) (BitVec.ofNat 32 e.val))).toInt : ℝ) : EReal) = _
  by_cases h : r (ix2 t 0) = BitVec.ofNat 32 e.val
  · rw [if_pos h, h]; simp [IntOp.cmpi]
  · rw [if_neg h, show IntOp.cmpi CmpIPredicate.eq (r (ix2 t 0)) (BitVec.ofNat 32 e.val) = 0#1 by simp only [IntOp.cmpi]; rw [beq_eq_false_iff_ne.mpr h]; rfl]; simp

theorem compare_at (r : IVec S512x1 32) (t : Fin 512) (v o : FVec Ideal S512x64 .f32) (hv : ∀ e : Fin 64, v (ix2 t e) = ((cnt r e t.val : ℕ) : EReal))
    (ho : ∀ e : Fin 64, o (ix2 t e) = ((hot r e t.val : ℕ) : EReal)) :
    cmpf .ole (shapeCast S512x1 (multiReduction .add [1] S512 (mulf v o) 0x00000000#32 Gen.facts.reduces_S512x64_S512 (.inl rfl) rfl) Gen.facts.shapeCasts_S512_S512x1)
        (broadcast S512x1 (Scalar.ofBits (F := Ideal) .f32 0x40D00000#32)) (ix2 t 0)
      = BitVec.ofBool (decide ((∑ e : Fin 64, ((cnt r e t.val : ℕ) : EReal) * ((hot r e t.val : ℕ) : EReal)) ≤ ((6.5 : ℝ) : EReal))) := by
  pointwise
  simp only [hv, ho, six_half]

theorem mask_at (r : IVec S512x1 32) (t : Fin 512) :
    k0_pay2 (F := Ideal) r (iota .tc S512x64 32 [1] Gen.facts.iota_S512x64_d1_w32) (ix2 t 0)
      = BitVec.ofBool (decide ((∑ e : Fin 64, ((cnt r e t.val : ℕ) : EReal) * ((hot r e t.val : ℕ) : EReal)) ≤ ((6.5 : ℝ) : EReal))) := by
  have h1 : ∀ e : Fin 64, ∀ t : Fin 512, _ = win 1 (fun s => ((hot r e s : ℕ) : EReal)) t.val := fun e t =>
    (onehot_at r t e).trans (win_one _ _).symm
  have h9 := fun e => step (k := 256) rfl Gen.facts.concatenates_S256x64_S256x64_S512x64_d0 Gen.facts.slices_S512x64_o0_0_S256x64 _ _ e
   <| step (k := 384) rfl Gen.facts.concatenates_S128x64_S384x64_S512x64_d0 Gen.facts.slices_S512x64_o0_0_S384x64 _ _ e
   <| step (k := 448) rfl Gen.facts.concatenates_S64x64_S448x64_S512x64_d0 Gen.facts.slices_S512x64_o0_0_S448x64 _ _ e
   <| step (k := 480) rfl Gen.facts.concatenates_S32x64_S480x64_S512x64_d0 Gen.facts.slices_S512x64_o0_0_S480x64 _ _ e
   <| step (k := 496) rfl Gen.facts.concatenates_S16x64_S496x64_S512x64_d0 Gen.facts.slices_S512x64_o0_0_S496x64 _ _ e
   <| step (k := 504) rfl Gen.facts.concatenates_S8x64_S504x64_S512x64_d0 Gen.facts.slices_S512x64_o0_0_S504x64 _ _ e
   <| step (k := 508) rfl Gen.facts.concatenates_S4x64_S508x64_S512x64_d0 Gen.facts.slices_S512x64_o0_0_S508x64 _ _ e
   <| step (k := 510) rfl Gen.facts.concatenates_S2x64_S510x64_S512x64_d0 Gen.facts.slices_S512x64_o0_0_S510x64 _ _ e
   <| step (k := 511) rfl Gen.facts.concatenates_S1x64_S511x64_S512x64_d0 Gen.facts.slices_S512x64_o0_0_S511x64 _ _ e (h1 e)
  exact compare_at r t _ _ (fun e => (h9 e t).trans (win_cast _ _ _)) (fun e => onehot_at r t e)

/-- On a token that has expert `e` the mask is whether the expert keeps it. -/
theorem mask_hot (r : IVec S512x1 32) (t : Fin 512) (e : Fin 64) (h : r (ix2 t 0) = BitVec.ofNat 32 e.val) :
    k0_pay2 (F := Ideal) r (iota .tc S512x64 32 [1] Gen.facts.iota_S512x64_d1_w32) (ix2 t 0) = BitVec.ofBool (decide (cnt r e t.val ≤ 6)) := by
  rw [mask_at, Finset.sum_eq_single e]
  · rw [hot_at, if_pos h]
    refine congrArg BitVec.ofBool (decide_eq_decide.mpr ?_)
    rw [Nat.cast_one, mul_one, show ((cnt r e t.val : ℕ) : EReal) = (((cnt r e t.val : ℕ) : ℝ) : EReal) by norm_cast, EReal.coe_le_coe_iff]
    constructor
    · intro h'
      by_contra hc
      have : (7 : ℝ) ≤ (cnt r e t.val : ℕ) := by exact_mod_cast (show 7 ≤ cnt r e t.val by omega)
      linarith
    · intro h'
      have : ((cnt r e t.val : ℕ) : ℝ) ≤ 6 := by exact_mod_cast h'
      linarith
  · intro e' _ hne
    rw [hot_at, if_neg (fun h' => hne (word_e (h'.symm.trans h))), Nat.cast_zero, mul_zero]
  · intro h'; exact absurd (Finset.mem_univ e) h'

end Cert.Exch
-- ==== Proof.KernelVal.lean ====
/-
# The kernel's value

Read at an index: the masked tokens, the products a device has for each slot, and the sum over the slots.
-/
module

public import proofs.«01_k».proof.Proof.Proto
public import proofs.«01_k».proof.Proof.Mask

@[expose] public section

set_option maxRecDepth 100000

noncomputable section

namespace Cert.Exch

open Cert.KernelIdeal Cert.KernelIdeal.Gen
open Idealize.ShloMosaic
open Idealize.ShloMosaic.TcCoe
open scoped BigOperators

/-! ## The sum over the slots -/

variable (m : (ℓ : Loc nD τ sig) → Buf (Elt Ideal) ℓ) (ρ : Dev nD → PrngReg)

/-- The product that device `d` has in slot `j`, at row `r` and output `o`. -/
def yv (d : Dev nD) (j : Fin 32) (r : Fin 16) (o : Fin 512) : EReal := YB m ρ d (ix3 j r o : S32x16x512.Idx)

theorem rcv_at (c : Dev nD) (j : Fin 32) (r : Fin 16) (o : Fin 512) :
    rcv m ρ c j (ix3 (0 : Fin 1) r o) = yv m ρ (dn c j) j r o := by
  show RV m ρ c _ = _
  have : (slotR j).toLoadRect.idx (ix3 (0 : Fin 1) r o) = (ix3 j r o : S32x16x512.Idx) := by
    funext a
    match a with
    | ⟨0, _⟩ => exact Fin.ext (by show j.val + 1 * 0 = j.val; omega)
    | ⟨1, _⟩ => exact Fin.ext (by show 0 + 1 * r.val = r.val; omega)
    | ⟨2, _⟩ => exact Fin.ext (by show 0 + 1 * o.val = o.val; omega)
  exact (congrArg (RV m ρ c) this).trans rfl

theorem own0_at (c : Dev nD) (r : Fin 16) (o : Fin 512) :
    own0 m ρ c (ix3 (0 : Fin 1) r o) = yv m ρ (dn c 0) 0 r o := by
  have h0 : dn c 0 = c := by
    have : c.val < 32 := c.isLt
    exact Fin.ext (by show (c.val + 32 - 0) % 32 = c.val; omega)
  rw [h0]
  show YB m ρ c _ = _
  have : (slotR 0).toLoadRect.idx (ix3 (0 : Fin 1) r o) = (ix3 (0 : Fin 32) r o : S32x16x512.Idx) := by
    funext a
    match a with
    | ⟨0, _⟩ => rfl
    | ⟨1, _⟩ => exact Fin.ext (by show 0 + 1 * r.val = r.val; omega)
    | ⟨2, _⟩ => exact Fin.ext (by show 0 + 1 * o.val = o.val; omega)
  exact congrArg (YB m ρ c) this

theorem outV_at (c : Dev nD) (r : Fin 16) (o : Fin 512) :
    outV m ρ c (ix2 r o) = ∑ j : Fin 32, yv m ρ (dn c j) j r o := by
  simp only [← rcv_at]
  have h0 : rcv m ρ c 0 (ix3 (0 : Fin 1) r o) = own0 m ρ c (ix3 (0 : Fin 1) r o) := (rcv_at m ρ c 0 r o).trans (own0_at m ρ c r o).symm
  unfold outV
  generalize own0 m ρ c = u at h0 ⊢
  generalize hv : rcv m ρ c = v at h0 ⊢
  clear hv
  pointwise [k0_pay11, k0_pay12, k0_pay13, k0_pay14, k0_pay15, k0_pay16, k0_pay17, k0_pay18, k0_pay19, k0_pay20, k0_pay21, k0_pay22, k0_pay23,
    k0_pay24, k0_pay25]
  rw [← h0]
  simp only [Fin.sum_univ_castSucc, Finset.univ_eq_empty, Finset.sum_empty, zero_add]
  rfl

/-! ## The products -/

theorem off1_val : ∀ (c : Dev nD) (k : Fin 4), k0_off1 c (BitVec.ofNat 32 (128 * k.val)) = ![16 * c.val + 128 * k.val, 0] := by decide +kernel

theorem mxV_at (c : Dev nD) (k : Fin 4) (s : Fin 128) (q : Fin 512) (h : 16 * c.val + 128 * k.val + s.val < 1024) :
    mxV m ρ c k (ix2 s q) = MX m ρ c (ix2 (⟨16 * c.val + 128 * k.val + s.val, h⟩ : Fin 1024) q) := by
  show MX m ρ c _ = _
  refine congrArg (MX m ρ c) (funext fun a => ?_)
  match a with
  | ⟨0, _⟩ => exact Fin.ext (by show k0_off1 c (BitVec.ofNat 32 (128 * k.val)) 0 + 1 * s.val = _; rw [off1_val]; show 16 * c.val + 128 * k.val + 1 * s.val = 16 * c.val + 128 * k.val + s.val; omega)
  | ⟨1, _⟩ => exact Fin.ext (by show k0_off1 c (BitVec.ofNat 32 (128 * k.val)) 1 + 1 * q.val = _; rw [off1_val]; show 0 + 1 * q.val = q.val; omega)

theorem chunkV_at (c : Dev nD) (k : Fin 4) (a : Fin 8) (r : Fin 16) (o : Fin 512) (h : 16 * a.val + r.val < 128) :
    chunkV m ρ c k (ix3 a r o) = ∑ q : Fin 512, mxV m ρ c k (ix2 (⟨16 * a.val + r.val, h⟩ : Fin 128) q) * k0_pay5 (w0V m ρ c) (w1V m ρ c) (ix2 q o) := by
  have e : (⟨16 * a.val + r.val, h⟩ : Fin 128) = ⟨a.val * 16 + r.val, by omega⟩ := Fin.ext (by show 16 * a.val + r.val = a.val * 16 + r.val; omega)
  rw [e]
  fin_cases k
  · show k0_pay7 (k0_pay6 (w0V m ρ c) (w1V m ρ c) (mxV m ρ c 0)) (ix3 a r o) = ∑ q : Fin 512, mxV m ρ c 0 _ * _
    generalize mxV m ρ c 0 = X
    unfold k0_pay7 k0_pay6
    generalize k0_pay5 (w0V m ρ c) (w1V m ρ c) = W
    pointwise
  · show k0_pay8 (k0_pay5 (w0V m ρ c) (w1V m ρ c)) (mxV m ρ c 1) (ix3 a r o) = ∑ q : Fin 512, mxV m ρ c 1 _ * _
    generalize mxV m ρ c 1 = X
    generalize k0_pay5 (w0V m ρ c) (w1V m ρ c) = W
    pointwise [k0_pay8]
  · show k0_pay9 (k0_pay5 (w0V m ρ c) (w1V m ρ c)) (mxV m ρ c 2) (ix3 a r o) = ∑ q : Fin 512, mxV m ρ c 2 _ * _
    generalize mxV m ρ c 2 = X
    generalize k0_pay5 (w0V m ρ c) (w1V m ρ c) = W
    pointwise [k0_pay9]
  · show k0_pay10 (k0_pay5 (w0V m ρ c) (w1V m ρ c)) (mxV m ρ c 3) (ix3 a r o) = ∑ q : Fin 512, mxV m ρ c 3 _ * _
    generalize mxV m ρ c 3 = X
    generalize k0_pay5 (w0V m ρ c) (w1V m ρ c) = W
    pointwise [k0_pay10]

/-- A device's two matrices, one below the other. -/
theorem wcat_at (c : Dev nD) (q : Fin 512) (o : Fin 512) :
    k0_pay5 (w0V m ρ c) (w1V m ρ c) (ix2 q o)
      = if h : q.val < 256 then (wstg m ρ c (ix3 (0 : Fin 2) (⟨q.val, h⟩ : Fin 256) o) : EReal) else wstg m ρ c (ix3 (1 : Fin 2) (⟨q.val - 256, by omega⟩ : Fin 256) o) := by
  have h0 : ∀ q : Fin 256, w0V m ρ c (ix3 (0 : Fin 1) q o) = wstg m ρ c (ix3 (0 : Fin 2) q o) := fun q => by
    show wstg m ρ c _ = _
    refine congrArg (wstg m ρ c) (funext fun a => ?_)
    match a with
    | ⟨0, _⟩ => rfl
    | ⟨1, _⟩ => exact Fin.ext (by show 0 + 1 * q.val = q.val; omega)
    | ⟨2, _⟩ => exact Fin.ext (by show 0 + 1 * o.val = o.val; omega)
  have h1 : ∀ q : Fin 256, w1V m ρ c (ix3 (0 : Fin 1) q o) = wstg m ρ c (ix3 (1 : Fin 2) q o) := fun q => by
    show wstg m ρ c _ = _
    refine congrArg (wstg m ρ c) (funext fun a => ?_)
    match a with
    | ⟨0, _⟩ => rfl
    | ⟨1, _⟩ => exact Fin.ext (by show 0 + 1 * q.val = q.val; omega)
    | ⟨2, _⟩ => exact Fin.ext (by show 0 + 1 * o.val = o.val; omega)
  generalize w0V m ρ c = A at h0 ⊢
  generalize w1V m ρ c = B at h1 ⊢
  pointwise [k0_pay5]
  by_cases h : q.val < 256
  · rw [dif_pos h, dif_pos h]; exact h0 _
  · rw [dif_neg h, dif_neg h]; exact h1 _

theorem place_val : ∀ c : Dev nD, place c = BitVec.ofNat 32 c.val := by decide +kernel

/-- The factor by which expert `e` masks token `t`. -/
def fac (r : IVec S512x1 32) (t : Fin 512) (e : Fin 64) : EReal := open Classical in if kept r t e then 1 else 0

theorem word_of (c : ℕ) (k : ℕ) : Scalar.addi (Scalar.muli (BitVec.ofNat 32 c) 2#32) (BitVec.ofNat 32 k) = BitVec.ofNat 32 (2 * c + k) := by
  show BitVec.ofNat 32 c * 2#32 + BitVec.ofNat 32 k = _
  apply BitVec.eq_of_toNat_eq
  simp only [BitVec.toNat_add, BitVec.toNat_mul, BitVec.toNat_ofNat]
  omega

/-- The kernel's mask factor: routed to the expert, and within its capacity. -/
theorem fac_of (r : IVec S512x1 32) (t : Fin 512) (e : Fin 64) (K : BitVec 1)
    (h : r (ix2 t 0) = BitVec.ofNat 32 e.val → K = BitVec.ofBool (decide (cnt r e t.val ≤ 6))) :
    (FloatOps.sitofp (F := Ideal) .f32 (BitVec.setWidth 32 (IntOp.andi (IntOp.cmpi .eq (r (ix2 t 0)) (BitVec.ofNat 32 e.val)) K)) : EReal) = fac r t e := by
  have hs : ∀ b : BitVec 1, (FloatOps.sitofp (F := Ideal) .f32 (BitVec.setWidth 32 b) : EReal) = if b = 1#1 then 1 else 0 := fun b => by
    show ((((BitVec.setWidth 32 b).toInt : ℤ) : ℝ) : EReal) = _
    rcases BitVec.eq_zero_or_eq_one b with h | h <;> subst h <;> simp
  rw [hs]
  unfold fac kept
  by_cases hr : r (ix2 t 0) = BitVec.ofNat 32 e.val
  · rw [h hr, hr]
    have : IntOp.cmpi .eq (BitVec.ofNat 32 e.val) (BitVec.ofNat 32 e.val) = 1#1 := by simp only [IntOp.cmpi]; rw [beq_self_eq_true]; rfl
    rw [this]
    by_cases h6 : cnt r e t.val ≤ 6
    · rw [decide_eq_true h6, if_pos (by decide)]; exact (if_pos ⟨rfl, h6⟩).symm
    · rw [decide_eq_false h6, if_neg (by decide)]; exact (if_neg fun h => h6 h.2).symm
  · have : IntOp.cmpi .eq (r (ix2 t 0)) (BitVec.ofNat 32 e.val) = 0#1 := by simp only [IntOp.cmpi]; rw [beq_eq_false_iff_ne.mpr hr]; rfl
    rw [this, show IntOp.andi 0#1 K = 0#1 from BitVec.zero_and, if_neg (by decide)]
    exact (if_neg fun h => hr h.1).symm

/-- The masked tokens: row `t` modulo 512, the first 256 columns masked by the device's first expert and the others by its second. -/
theorem masked_at (c : Dev nD) (x : FVec Ideal S512x256 .bf16) (r : IVec S512x1 32) (t : Fin 1024) (q : Fin 512) :
    k0_pay4 (place c) r (k0_pay2 (F := Ideal) r (iota .tc S512x64 32 [1] Gen.facts.iota_S512x64_d1_w32)) x (ix2 t q)
      = if h : q.val < 256 then x (ix2 (⟨t.val % 512, Nat.mod_lt _ (by decide)⟩ : Fin 512) (⟨q.val, h⟩ : Fin 256)) * fac r ⟨t.val % 512, Nat.mod_lt _ (by decide)⟩ ⟨2 * c.val, by have : c.val < 32 := c.isLt; omega⟩
        else x (ix2 (⟨t.val % 512, Nat.mod_lt _ (by decide)⟩ : Fin 512) (⟨q.val - 256, by omega⟩ : Fin 256)) * fac r ⟨t.val % 512, Nat.mod_lt _ (by decide)⟩ ⟨2 * c.val + 1, by have : c.val < 32 := c.isLt; omega⟩ := by
  have hk := fun t e => mask_hot r t e
  generalize k0_pay2 (F := Ideal) r (iota .tc S512x64 32 [1] Gen.facts.iota_S512x64_d1_w32) = K at hk ⊢
  rw [place_val]
  pointwise [k0_pay4]
  rw [word_of, word_of]
  have hc : c.val < 32 := c.isLt
  have f0 := fun t => fac_of r t ⟨2 * c.val, by omega⟩ _ (hk t _)
  have f1 := fun t => fac_of r t ⟨2 * c.val + 1, by omega⟩ _ (hk t _)
  simp only [Nat.add_zero, f0, f1]
  by_cases ht : t.val < 512
  · rw [dif_pos ht]; simp only [Nat.mod_eq_of_lt ht]
  · have e : t.val % 512 = t.val - 512 := by omega
    rw [dif_neg ht]; simp only [e]

/-- What one expert, with the matrix `w k`, makes of token `T`: nothing unless the token is kept there. -/
def part (x : FVec Ideal S512x256 .bf16) (r : IVec S512x1 32) (w : FVec Ideal S2x256x512 .bf16) (T : Fin 512) (e : Fin 64) (k : Fin 2) (o : Fin 512) : EReal :=
  open Classical in if kept r T e then ∑ q : Fin 256, x (ix2 T q) * w (ix3 k q o) else 0

theorem part_of (x : FVec Ideal S512x256 .bf16) (r : IVec S512x1 32) (w : FVec Ideal S2x256x512 .bf16) (T : Fin 512) (e : Fin 64) (k : Fin 2) (o : Fin 512) :
    ∑ q : Fin 256, x (ix2 T q) * fac r T e * w (ix3 k q o) = part x r w T e k o := by
  unfold fac part
  by_cases h : kept r T e
  · rw [if_pos h, if_pos h]
    exact Finset.sum_congr rfl fun q _ => by rw [mul_one]
  · rw [if_neg h, if_neg h]
    exact Finset.sum_eq_zero fun q _ => by rw [mul_zero, zero_mul]

theorem MX_eq (d : Dev nD) : MX m ρ d = k0_pay4 (place d) (rstg m ρ d) (k0_pay2 (F := Ideal) (rstg m ρ d) (iota .tc S512x64 32 [1] Gen.facts.iota_S512x64_d1_w32)) (xstg m ρ d) := by
  unfold MX
  rw [show k0_pay1 (rstg m ρ d) = rstg m ρ d from shapeCast_id _ _, show k0_pay3 (xstg m ρ d) = xstg m ρ d from shapeCast_id _ _]

/-- A product slot, from the unmasked arrays: its token's row, at each of the device's two experts. -/
theorem yv_at (d : Dev nD) (j : Fin 32) (r : Fin 16) (o T : Fin 512) (hT : (16 * (d.val + j.val) + r.val) % 512 = T.val) :
    yv m ρ d j r o = part (xstg m ρ d) (rstg m ρ d) (wstg m ρ d) T ⟨2 * d.val, by have : d.val < 32 := d.isLt; omega⟩ 0 o
      + part (xstg m ρ d) (rstg m ρ d) (wstg m ρ d) T ⟨2 * d.val + 1, by have : d.val < 32 := d.isLt; omega⟩ 1 o := by
  have hd : d.val < 32 := d.isLt
  have hj := j.isLt
  have hr := r.isLt
  have e1 : yv m ρ d j r o = chunkV m ρ d ⟨j.val / 8, by omega⟩ (ix3 (⟨j.val % 8, by omega⟩ : Fin 8) r o) := by
    show chunkV m ρ d ⟨j.val / 8, _⟩ _ = _
    refine congrArg (chunkV m ρ d ⟨j.val / 8, by omega⟩) (funext fun a => ?_)
    match a with
    | ⟨0, _⟩ => rfl
    | ⟨1, _⟩ => rfl
    | ⟨2, _⟩ => rfl
  rw [e1, chunkV_at m ρ d _ _ r o (by show 16 * (j.val % 8) + r.val < 128; omega)]
  have e2 : ∀ q : Fin 512, (mxV m ρ d ⟨j.val / 8, by omega⟩ (ix2 (⟨16 * (j.val % 8) + r.val, by omega⟩ : Fin 128) q) : EReal)
      = MX m ρ d (ix2 (⟨16 * (d.val + j.val) + r.val, by omega⟩ : Fin 1024) q) := fun q => by
    rw [mxV_at m ρ d _ _ q (by show 16 * d.val + 128 * (j.val / 8) + (16 * (j.val % 8) + r.val) < 1024; omega)]
    refine congrArg (fun t : Fin 1024 => MX m ρ d (ix2 t q)) (Fin.ext ?_)
    show 16 * d.val + 128 * (j.val / 8) + (16 * (j.val % 8) + r.val) = 16 * (d.val + j.val) + r.val
    omega
  have eT : (⟨(16 * (d.val + j.val) + r.val) % 512, Nat.mod_lt _ (by decide)⟩ : Fin 512) = T := Fin.ext hT
  have e3 := fun q => (congrFun (MX_eq m ρ d) _).trans (masked_at d (xstg m ρ d) (rstg m ρ d) (⟨16 * (d.val + j.val) + r.val, by omega⟩ : Fin 1024) q)
  simp only [eT] at e3
  rw [Fin.sum_univ_two_halves 256 256 rfl, ← part_of, ← part_of]
  congr 1
  · refine Finset.sum_congr rfl fun q _ => ?_
    rw [wcat_at, dif_pos q.isLt]
    refine congrArg₂ (· * ·) (((e2 _).trans (e3 _)).trans (dif_pos q.isLt)) rfl
  · refine Finset.sum_congr rfl fun q _ => ?_
    have hn : ¬ 256 + q.val < 256 := by omega
    rw [wcat_at, dif_neg hn]
    have hq : ∀ h, (⟨256 + q.val - 256, h⟩ : Fin 256) = q := fun h => Fin.ext (Nat.add_sub_cancel_left ..)
    simp only [hq]
    refine congrArg₂ (· * ·) (((e2 _).trans (e3 _)).trans ((dif_neg hn).trans ?_)) rfl
    simp only [hq]

end Cert.Exch
-- ==== Proof.RefVal.lean ====
/-
# The reference's value

The reference's result at token `t` and output `o` is the sum over the experts of the expert's product where the expert
keeps the token, and of zero elsewhere.
-/
module

public import proofs.«01_k».proof.Proof.Mask
public import proofs.«01_k».proof.Proof.Gen.ReferenceIdeal.Run
public import Idealize.ShloMosaic.Lib.Routing.OpsOne

@[expose] public section

set_option maxRecDepth 100000

noncomputable section

namespace Cert.Exch.Ref

open Cert.ReferenceIdeal Cert.ReferenceIdeal.Gen
open Idealize.ShloMosaic
open scoped BigOperators

/-- The 0/1 table of tokens and experts. -/
def hotR (r : IVec S512x1 32) : IVec S512x64 32 :=
  extui 32 (cmpi .eq (broadcastInDim S512x64 ![0, 1] bcast_S512x1_S512x64_0_1 (broadcastInDim S512x1 ![0] bcast_S512_S512x1_0 (shapeCast _ r shapeCasts_S512x1_S512))) (broadcastInDim S512x64 ![0, 1] bcast_S1x64_S512x64_0_1 (iotaInDim S1x64 32 1))) natLt_1_32

/-- The table of the kept pairs. -/
def keptR (r : IVec S512x1 32) : IVec S512x64 1 :=
  andi (cmpi .eq (hotR r) (broadcastInDim S512x64 ![] bcast_S_S512x64 (constantI S_ 32 1#32))) (cmpi .slt (subi (Host.reduceWindow IntOp.addi ![512, 1] ![1, 1] ![511, 0] ![0, 0] (hotR r) (broadcastInDim S_ ![] bcast_S_S_ (constantI S_ 32 0#32)) reduceWindows_S512x64_S512x64_w512s1p511_0_w1s1p0_0 h_S_) (hotR r)) (broadcastInDim S512x64 ![] bcast_S_S512x64 (constantI S_ 32 6#32)))

/-- The reference's result as a term in its operands. -/
def resR (x : FVec Ideal S512x256 .bf16) (r : IVec S512x1 32) (W : FVec Ideal S64x256x512 .bf16) : FVec Ideal S512x512 .f32 :=
  Host.reduceAdd (select (broadcastInDim S512x64x512 ![0, 1, 2] bcast_S512x64x1_S512x64x512_0_1_2 (broadcastInDim S512x64x1 ![0, 1] bcast_S512x64_S512x64x1_0_1 (keptR r))) (Host.dotGeneral dot_S512x256_S64x256x512_S512x64x512_1_1_0_02_n_n none x W) (broadcastInDim S512x64x512 ![] bcast_S_S512x64x512 (id (constant S_ .f32 0x00000000#32)))) (constant S_ .f32 0x00000000#32) reducesTo_S512x64x512_S512x512_d1 h_S_

theorem hotR_at (r : IVec S512x1 32) (t : Fin 512) (e : Fin 64) : hotR r (ix2 t e) = BitVec.ofNat 32 (hot r e t.val) := by
  rw [hot_at]
  pointwise [hotR]
  by_cases h : r (ix2 t 0) = BitVec.ofNat 32 e.val
  · rw [if_pos h, h]; simp [IntOp.cmpi]
  · rw [if_neg h, show IntOp.cmpi CmpIPredicate.eq (r (ix2 t 0)) (BitVec.ofNat 32 e.val) = 0#1 by
      simp only [IntOp.cmpi]; rw [beq_eq_false_iff_ne.mpr h]; rfl]; simp

theorem sum_list_range (f : ℕ → ℕ) (n : ℕ) : ((List.range n).map f).sum = ∑ i ∈ Finset.range n, f i := by
  induction n with
  | zero => simp
  | succ n ih => rw [List.range_succ, List.map_append, List.sum_append, ih, Finset.sum_range_succ]; simp

/-- A window that reaches back to the start is the sum from the start. -/
theorem win_all (f : ℕ → ℕ) (n t : ℕ) (h : t < n) : win n f t = ((List.range (t + 1)).map f).sum := by
  rw [sum_list_range, ← Finset.sum_range_reflect, win, ← Finset.sum_filter]
  refine Finset.sum_congr ?_ fun i hi => by rw [show t + 1 - 1 - i = t - i by omega]
  ext i; simp only [Finset.mem_filter, Finset.mem_range]; omega

theorem cum_at (r : IVec S512x1 32) (t : Fin 512) (e : Fin 64) :
    Host.reduceWindow IntOp.addi ![512, 1] ![1, 1] ![511, 0] ![0, 0] (hotR r) (broadcastInDim S_ ![] bcast_S_S_ (constantI S_ 32 0#32))
      reduceWindows_S512x64_S512x64_w512s1p511_0_w1s1p0_0 h_S_ (ix2 t e) = BitVec.ofNat 32 (cnt r e t.val) := by
  rw [ix2_eq_valueIdx]
  refine (Routing.cumsum_rows (R := 512) (Rm1 := 511) (C := 64) rfl (hotR r) (fun i c => if h : c < 64 then hot r ⟨c, h⟩ i else 0) (fun i c => ?_) _ rfl _ h_S_ t e).trans ?_
  · rw [← ix2_eq_valueIdx, hotR_at, dif_pos c.isLt]
  · refine congrArg _ ?_
    rw [cnt, win_all _ _ _ t.isLt]
    simp only [dif_pos e.isLt]

theorem keptR_at (r : IVec S512x1 32) (t : Fin 512) (e : Fin 64) : keptR r (ix2 t e) = 1#1 ↔ kept r t e := by
  have hc := cum_at r t e
  have hh := hotR_at r t e
  unfold keptR
  generalize Host.reduceWindow IntOp.addi ![512, 1] ![1, 1] ![511, 0] ![0, 0] (hotR r) _ _ _ = C at hc ⊢
  generalize hotR r = H at hh ⊢
  pointwise
  rw [hc, hh, hot_at]
  have h5 := cnt_le r e t.val
  unfold kept
  by_cases h : r (ix2 t 0) = BitVec.ofNat 32 e.val
  · have h1 := cnt_pos r e t h
    rw [if_pos h]
    generalize cnt r e t.val = n at h5 h1
    have hs : IntOp.subi (BitVec.ofNat 32 n) 1#32 = BitVec.ofNat 32 (n - 1) := by
      show BitVec.ofNat 32 n - 1#32 = _
      apply BitVec.eq_of_toNat_eq
      simp only [BitVec.toNat_sub, BitVec.toNat_ofNat]
      omega
    have hl : (BitVec.ofNat 32 (n - 1)).slt 6#32 = decide (n ≤ 6) := by
      have h2 : (BitVec.ofNat 32 (n - 1)).toNat = n - 1 := by rw [BitVec.toNat_ofNat]; omega
      rw [BitVec.slt, BitVec.toInt_eq_toNat_of_lt (by rw [h2]; omega), h2]
      refine decide_eq_decide.mpr ?_
      rw [show (6#32).toInt = 6 from rfl]; omega
    rw [hs]
    show (1#1 : BitVec 1) &&& BitVec.ofBool ((BitVec.ofNat 32 (n - 1)).slt 6#32) = 1#1 ↔ _
    rw [hl]
    by_cases h6 : n ≤ 6
    · rw [decide_eq_true h6]; exact ⟨fun _ => ⟨h, h6⟩, fun _ => rfl⟩
    · rw [decide_eq_false h6]; exact ⟨fun h' => absurd h' (by decide), fun h' => absurd h'.2 h6⟩
  · rw [if_neg h]
    refine ⟨fun h' => absurd h' ?_, fun h' => absurd h'.1 h⟩
    show ¬ (0#1 : BitVec 1) &&& _ = 1#1
    rw [BitVec.zero_and]; decide

theorem resR_at (x : FVec Ideal S512x256 .bf16) (r : IVec S512x1 32) (W : FVec Ideal S64x256x512 .bf16) (t o : Fin 512) :
    resR x r W (ix2 t o) = ∑ e : Fin 64, if keptR r (ix2 t e) = 1#1 then ∑ q : Fin 256, x (ix2 t q) * W (ix3 e q o) else 0 := by
  unfold resR
  generalize keptR r = K
  pointwise
  refine Finset.sum_congr rfl fun e _ => ?_
  show (if K (ix2 t e) = 1#1 then _ else Ideal.ofBits .f32 0x00000000#32) = _
  rw [Ideal.ofBits_zero_f32]

end Cert.Exch.Ref
-- ==== Proof.Value.lean ====
/-
# The kernel's result is the reference's

Each device's result is its sixteen rows of the reference's.
-/
module

public import proofs.«01_k».proof.Proof.KernelVal
public import proofs.«01_k».proof.Proof.RefVal
public import proofs.«01_k».proof.Proof.Run
public import Idealize.ShloMosaic.Lib.Layout

@[expose] public section

set_option maxRecDepth 100000

noncomputable section

namespace Cert.Exch

open Cert.KernelIdeal Cert.KernelIdeal.Gen
open Idealize.ShloMosaic Idealize.SL.Sem
open Idealize.ShloMosaic.TcCoe
open scoped BigOperators

section Arrays

variable {F : FTy → Type} [FloatOps F]
variable (m : (ℓ : Loc nD τ sig) → Buf (Elt F) ℓ) (ρ : Dev nD → PrngReg)

theorem xstg_eq (c : Dev nD) : xstg m ρ c = m ((c : Thread nD τ).loc main_arg0) :=
  Memref.read_access_unit_zero (Elt F) main_arg0 (off := fun a => (win0_0.index (0 : Fin 1)) a * main_arg0.ty.shape.size a) (funext fun a => by fin_cases a <;> decide) (fun a => by fin_cases a <;> decide) _
theorem rstg_eq (c : Dev nD) : rstg m ρ c = m ((c : Thread nD τ).loc main_arg2) :=
  Memref.read_access_unit_zero (Elt F) main_arg2 (off := fun a => (win0_1.index (0 : Fin 1)) a * main_arg2.ty.shape.size a) (funext fun a => by fin_cases a <;> decide) (fun a => by fin_cases a <;> decide) _
theorem wstg_eq (c : Dev nD) : wstg m ρ c = m ((c : Thread nD τ).loc main_arg3) :=
  Memref.read_access_unit_zero (Elt F) main_arg3 (off := fun a => (win0_2.index (0 : Fin 1)) a * main_arg3.ty.shape.size a) (funext fun a => by fin_cases a <;> decide) (fun a => by fin_cases a <;> decide) _

/-- The result's array after the run holds the kernel's sum. -/
theorem finalA_o (c : Dev nD) : finalA m ρ c (3 : Fin 4) = outV m ρ c := by
  have h : (win0_3.blk (0 : Fin 1)).view.read (Elt F) (finalA m ρ c (3 : Fin 4)) = outV m ρ c := by
    unfold finalA
    rw [show cfg0.N = ((0 : Fin 1) : Fin cfg0.N).val + 1 from rfl, (dats m ρ 0 c).arrAt_succ (3 : Fin 4) (0 : Fin 1)]
    rw [show (cfg0.win (3 : Fin 4)).flush (0 : Fin 1) = true from by decide, if_pos rfl]
    exact View.read_write_univ _ _
  exact (Memref.read_access_unit_zero (Elt F) main_v1 (off := fun a => (win0_3.index (0 : Fin 1)) a * main_v1.ty.shape.size a) (funext fun a => by fin_cases a <;> decide) (fun a => by fin_cases a <;> decide) _).symm.trans h

end Arrays

/-- Stepping back from `c` by each of the 32 distances meets every device once. -/
theorem sum_dn (c : Dev nD) (f : Fin 32 → EReal) : ∑ j : Fin 32, f (dn c j) = ∑ d : Fin 32, f d := by
  have hi : Function.Injective (fun j : Fin 32 => (dn c j : Fin 32)) := fun i j h => by
    have hc : c.val < 32 := c.isLt
    have h' : (c.val + 32 - i.val) % 32 = (c.val + 32 - j.val) % 32 := congrArg Fin.val h
    exact Fin.ext (by have := i.isLt; have := j.isLt; omega)
  exact Function.Bijective.sum_comp (Finite.injective_iff_bijective.mp hi) f

/-- A sum over 64 experts, two per device. -/
theorem sum_pairs (f : Fin 64 → EReal) : ∑ d : Fin 32, (f ⟨2 * d.val, by omega⟩ + f ⟨2 * d.val + 1, by omega⟩) = ∑ e : Fin 64, f e := by
  rw [← (finProdFinEquiv (m := 32) (n := 2)).sum_comp f, Fintype.sum_prod_type]
  refine Finset.sum_congr rfl fun d _ => ?_
  rw [Fin.sum_univ_two]
  congr 2 <;> apply Fin.ext <;> simp [finProdFinEquiv] <;> omega

/-- A device's part of an expert's product is the expert's of the whole stack of matrices. -/
theorem part_block (x : FVec Ideal S512x256 .bf16) (r : IVec S512x1 32) (W : FVec Ideal ⟨3, ![64, 256, 512]⟩ .bf16) (T : Fin 512) (d : Fin 32) (k : Fin 2) (e : Fin 64)
    (he : e.val = 2 * d.val + k.val) (o : Fin 512) :
    part x r (Layout.block ⟨3, ![2, 256, 512]⟩ ⟨3, ![64, 256, 512]⟩ 0 32 d W) T e k o
      = if Ref.keptR r (ix2 T e) = 1#1 then ∑ q : Fin 256, x (ix2 T q) * W (ix3 e q o) else 0 := by
  have hb : ∀ q : Fin 256, (Layout.block ⟨3, ![2, 256, 512]⟩ ⟨3, ![64, 256, 512]⟩ 0 32 d W) (ix3 k q o) = W (ix3 e q o) := fun q => by
    rw [Layout.block_apply]
    refine congrArg W (funext fun a => Fin.ext ?_)
    rw [Layout.Tiles.idx_val]
    match a with
    | ⟨0, _⟩ => show d.val * 2 + k.val = e.val; omega
    | ⟨1, _⟩ => rfl
    | ⟨2, _⟩ => rfl
  unfold part
  simp only [hb]
  exact @if_congr _ _ _ (Classical.propDecidable _) _ _ _ _ _ (Ref.keptR_at r T e).symm rfl rfl

/-- Device `c`'s result, where every device holds the same tokens and routes and its own block of the experts. -/
theorem outV_block (m : (ℓ : Loc nD τ sig) → Buf (Elt Ideal) ℓ) (ρ : Dev nD → PrngReg) (x : FVec Ideal S512x256 .bf16) (r : IVec S512x1 32)
    (W : FVec Ideal ⟨3, ![64, 256, 512]⟩ .bf16) (hx : ∀ d : Dev nD, m ((d : Thread nD τ).loc main_arg0) = x) (hr : ∀ d : Dev nD, m ((d : Thread nD τ).loc main_arg2) = r)
    (hw : ∀ d : Dev nD, m ((d : Thread nD τ).loc main_arg3) = Layout.block ⟨3, ![2, 256, 512]⟩ ⟨3, ![64, 256, 512]⟩ 0 32 d W) (c : Dev nD) :
    outV m ρ c = Layout.block ⟨2, ![16, 512]⟩ ⟨2, ![512, 512]⟩ 0 32 c (Ref.resR x r W) := by
  have hc : c.val < 32 := c.isLt
  have h : ∀ (s : Fin 16) (o : Fin 512), outV m ρ c (ix2 s o) = (Layout.block ⟨2, ![16, 512]⟩ ⟨2, ![512, 512]⟩ 0 32 c (Ref.resR x r W)) (ix2 s o) := fun s o => by
    have hs := s.isLt
    have hb : (Layout.block ⟨2, ![16, 512]⟩ ⟨2, ![512, 512]⟩ 0 32 c (Ref.resR x r W)) (ix2 s o) = Ref.resR x r W (ix2 (⟨c.val * 16 + s.val, by omega⟩ : Fin 512) o) := by
      rw [Layout.block_apply]
      refine congrArg (Ref.resR x r W) (funext fun a => Fin.ext ?_)
      rw [Layout.Tiles.idx_val]
      match a with
      | ⟨0, _⟩ => rfl
      | ⟨1, _⟩ => rfl
    rw [hb, Ref.resR_at, outV_at, ← sum_pairs]
    refine Eq.trans ?_ (sum_dn c _)
    refine Finset.sum_congr rfl fun j _ => ?_
    rw [yv_at m ρ (dn c j) j s o ⟨c.val * 16 + s.val, by omega⟩ (by
      have := j.isLt
      show (16 * ((c.val + 32 - j.val) % 32 + j.val) + s.val) % 512 = c.val * 16 + s.val
      omega)]
    rw [xstg_eq, rstg_eq, wstg_eq, hx, hr, hw]
    rw [part_block x r W _ _ 0 _ rfl, part_block x r W _ _ 1 _ rfl]
  funext i
  have hi : i = ix2 (⟨(i 0).val, (i 0).isLt⟩ : Fin 16) (⟨(i 1).val, (i 1).isLt⟩ : Fin 512) := by
    funext a
    match a with
    | ⟨0, _⟩ => rfl
    | ⟨1, _⟩ => rfl
  rw [hi]
  exact h _ _

end Cert.Exch

end
-- ==== Proof.lean ====
/-
# The certificate

The frames of the kernel, as printed and idealized, come from the one run over any float values; the reference's from its
generated run. The value claim reads the same run at the extended reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

set_option maxRecDepth 100000

noncomputable section

namespace Cert.Proof

open Idealize.ShloMosaic Idealize.SL.Sem

/-- What the run says of the arguments. -/
theorem args_kept {F : FTy → Type} [FloatOps F] (m : (ℓ : Loc Cert.KernelIdeal.nD Cert.KernelIdeal.τ Cert.KernelIdeal.sig) → Buf (Elt F) ℓ)
    (ρ : Dev Cert.KernelIdeal.nD → PrngReg) {r : PUnit × MemSt Cert.KernelIdeal.nD Cert.KernelIdeal.τ Cert.KernelIdeal.sig (Elt F)}
    (h : Cert.Exch.QC m ρ r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3) :=
  ⟨((h c).1 (0 : Fin 4)).trans (Cert.Exch.finalA_x m ρ c), (h c).2, ((h c).1 (1 : Fin 4)).trans (Cert.Exch.finalA_r m ρ c),
    ((h c).1 (2 : Fin 4)).trans (Cert.Exch.finalA_w m ρ c)⟩

/-- The two programs' bodies are the same text. -/
theorem bodies_eq {F : FTy → Type} [FloatOps F] : Cert.Kernel.defs₀ (F := F) = Cert.KernelIdeal.defs₀ (F := F) := by
  unfold Cert.Kernel.defs₀ Cert.KernelIdeal.defs₀
  congr 1
  funext l p
  match l with
  | 0 => rfl

theorem tables_eq {F : FTy → Type} [FloatOps F] : Cert.Kernel.defs (F := F) = Cert.KernelIdeal.defs (F := F) := by
  unfold Cert.Kernel.defs Cert.KernelIdeal.defs
  rw [bodies_eq]
  rfl

theorem frame_kernel : Cert.quiescent_Kernel := fun m ρ _ => by
  rw [tables_eq]
  have h := (θ_run (Cert.KernelIdeal.defs (F := Bits)) _ _).mono (fun _ h => And.intro (args_kept m ρ h.1) h.2)
    (Cert.Exch.run_main (F := Bits) m ρ)
  exact h

theorem frame_ideal : Cert.quiescent_KernelIdeal := fun m ρ _ =>
  (θ_run Cert.KernelIdeal.defs _ _).mono (fun _ h => ⟨args_kept m ρ h.1, h.2⟩) (Cert.Exch.run_main (F := Ideal) m ρ)

theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- Every device ends holding its sixteen rows of what the reference ends holding. -/
theorem value : Cert.algebraic_KernelIdeal_ReferenceIdeal := by
  intro m ρ m' ρ' _ hagree
  refine ⟨Cert.Exch.Ref.resR (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, ?_⟩
  · refine (θ_run Cert.KernelIdeal.defs _ _).mono (fun r h c => ⟨(((h.1 c).1 (3 : Fin 4)).trans (Cert.Exch.finalA_o m ρ c)).trans ?_, args_kept m ρ h.1 c⟩)
      (Cert.Exch.run_main (F := Ideal) m ρ)
    exact Cert.Exch.outV_block m ρ _ _ _ (fun d => (hagree d).1) (fun d => (hagree d).2.2.1) (fun d => (hagree d).2.2.2) c
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  frame_kernel, frame_ideal, frame_reference, trivial, value⟩

end Cert.Proof

end
